-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S64x40 .f32) (main_arg5 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x40 .f32 := Host.absf main_arg4
  let main_cst_6 : FVec F S_ .f32 := constant S_ .f32 0x7F800000#32
  let main_v20 : FVec F S64x40 .f32 := broadcastInDim S64x40 ![] bcast_S_S64x40 main_cst_6
  let main_v21 : IVec S64x40 1 := cmpf .olt main_v19 main_v20
  let main_c_7 : IVec S_ 1 := constantI S_ 1 1#1
  let main_v22 : IVec S_ 1 := (fun x v => Host.reduce IntOp.andi x v reducesTo_S64x40_S_d0_1 h_S_) main_v21 main_c_7
  let main_v23 : IVec S_ 1 := andi main_v18 main_v22
  let main_v24 : FVec F S40 .f32 := Host.absf main_arg5
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x64 .f32) (main_arg3 : FVec F S64 .f32) (main_arg4 : FVec F S64x40 .f32) (main_arg5 : FVec F S40 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x64 : Shape := ⟨2, ![1, 64]⟩
abbrev S1x40 : Shape := ⟨2, ![1, 40]⟩
abbrev S10000x40 : Shape := ⟨2, ![10000, 40]⟩
abbrev S200x10000 : Shape := ⟨2, ![200, 10000]⟩
abbrev S200x40 : Shape := ⟨2, ![200, 40]⟩
abbrev S10000x64 : Shape := ⟨2, ![10000, 64]⟩
abbrev S200x64 : Shape := ⟨2, ![200, 64]⟩
abbrev S1000x10000 : Shape := ⟨2, ![1000, 10000]⟩
abbrev S1000x40 : Shape := ⟨2, ![1000, 40]⟩
abbrev S1000x2560 : Shape := ⟨2, ![1000, 2560]⟩
abbrev S2560x40 : Shape := ⟨2, ![2560, 40]⟩
abbrev S1000x2320 : Shape := ⟨2, ![1000, 2320]⟩
abbrev S2320x40 : Shape := ⟨2, ![2320, 40]⟩
abbrev S1000 : Shape := ⟨1, ![1000]⟩
abbrev S1000x1 : Shape := ⟨2, ![1000, 1]⟩

abbrev nBuf : Space → Nat
  | .hbm => 11
  | .vmem => 18
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S1x64, .f32⟩
  | .hbm, ⟨7, _⟩ => ⟨S1x40, .f32⟩
  | .hbm, ⟨8, _⟩ => ⟨S10000x40, .f32⟩
  | .hbm, ⟨9, _⟩ => ⟨S10000x10000, .fp8e4m3⟩
  | .hbm, ⟨10, _⟩ => ⟨S10000x40, .f32⟩
  | .local _ .vmem, ⟨0, _⟩ => ⟨S10000x128, .f32⟩
  | .local _ .vmem, ⟨1, _⟩ => ⟨S200x10000, .f32⟩
  | .local _ .vmem, ⟨2, _⟩ => ⟨S200x10000, .f32⟩
  | .local _ .vmem, ⟨3, _⟩ => ⟨S128x64, .f32⟩
  | .local _ .vmem, ⟨4, _⟩ => ⟨S1x64, .f32⟩
  | .local _ .vmem, ⟨5, _⟩ => ⟨S64x40, .f32⟩
  | .local _ .vmem, ⟨6, _⟩ => ⟨S200x40, .f32⟩
  | .local _ .vmem, ⟨7, _⟩ => ⟨S200x40, .f32⟩
  | .local _ .vmem, ⟨8, _⟩ => ⟨S200x10000, .fp8e4m3⟩
  | .local _ .vmem, ⟨9, _⟩ => ⟨S200x10000, .fp8e4m3⟩
  | .local _ .vmem, ⟨10, _⟩ => ⟨S10000x64, .f32⟩
  | .local _ .vmem, ⟨11, _⟩ => ⟨S1000x10000, .fp8e4m3⟩
  | .local _ .vmem, ⟨12, _⟩ => ⟨S1000x10000, .fp8e4m3⟩
  | .local _ .vmem, ⟨13, _⟩ => ⟨S10000x40, .f32⟩
  | .local _ .vmem, ⟨14, _⟩ => ⟨S1x40, .f32⟩
  | .local _ .vmem, ⟨15, _⟩ => ⟨S1000x40, .f32⟩
  | .local _ .vmem, ⟨16, _⟩ => ⟨S1000x40, .f32⟩
  | .local _ .vmem, ⟨17, _⟩ => ⟨S10000x40, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2_0 : Ref sig .tc := ⟨.hbm, 8, rfl⟩
abbrev main_call0_v2_1 : Ref sig .tc := ⟨.hbm, 9, rfl⟩
abbrev main_v0 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S200x40 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S200x10000 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x10000 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S10000x64 : Shape := ⟨2, ![10000, 64]⟩
abbrev S1x64 : Shape := ⟨2, ![1, 64]⟩
abbrev S_ : Shape := ⟨0, ![]⟩
abbrev S10000x40 : Shape := ⟨2, ![10000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 34
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S10000x64, .f32⟩
  | .hbm, ⟨7, _⟩ => ⟨S10000x64, .f32⟩
  | .hbm, ⟨8, _⟩ => ⟨S1x64, .f32⟩
  | .hbm, ⟨9, _⟩ => ⟨S10000x64, .f32⟩
  | .hbm, ⟨10, _⟩ => ⟨S10000x64, .f32⟩
  | .hbm, ⟨11, _⟩ => ⟨S_, .f32⟩
  | .hbm, ⟨12, _⟩ => ⟨S10000x64, .f32⟩
  | .hbm, ⟨13, _⟩ => ⟨S10000x64, .f32⟩
  | .hbm, ⟨14, _⟩ => ⟨S10000x40, .f32⟩
  | .hbm, ⟨15, _⟩ => ⟨S10000x40, .f32⟩
  | .hbm, ⟨16, _⟩ => ⟨S1x40, .f32⟩
  | .hbm, ⟨17, _⟩ => ⟨S10000x40, .f32⟩
  | .hbm, ⟨18, _⟩ => ⟨S10000x40, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x40, .f32⟩
  | .hbm, ⟨26, _⟩ => ⟨S10000x40, .f32⟩
  | .hbm, ⟨27, _⟩ => ⟨S10000x40, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x1, .f32⟩
  | .hbm, ⟨32, _⟩ => ⟨S10000x40, .f32⟩
  | .hbm, ⟨33, _⟩ => ⟨S10000x40, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_call0_cst_0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_cst_1 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_v12 : Ref sig .tc := ⟨.hbm, 33, rfl⟩

abbrev nD : Nat := 1
abbrev τ : Topo := Topo.v7x

variable {F : FTy → Type} [FloatOps F]
-- ==== Proof.Loads.lean ====
/-
  Loads from a buffer whose contents are known: of the whole of it, of a part of it, and of a part of it just after the
  whole was written.
-/
module

public import proofs.«01_k».proof.Proof.Gen.KernelIdeal.Launch
public import Idealize.ShloMosaic.Lib.Pipeline.FrameBody
public import Idealize.ShloMosaic.Lib.Tactic
public import Idealize.ShloMosaic.Lib.VecWindow

@[expose] public section

set_option maxRecDepth 16384

noncomputable section

namespace Cert.Proof.Loads

open Cert.KernelIdeal Cert.KernelIdeal.Gen
open Idealize.ShloMosaic

variable {F : FTy → Type} [FloatOps F]
variable {κ : Kind} {sp : Space} {s : Shape} {e : EltTy} {M : Memref sig κ sp s e}

/-- A load of the whole of a whole buffer that reads `x` yields `x`. -/
theorem load_whole (h : M.IsWhole) (x : s.Idx → Elt F e) {off : Fin s.rank → ℕ} (inb : ∀ a, off a + s.size a ≤ s.size a) :
    View.readAt (Elt F) M.view (Rect.unit off s.size inb).toLoadRect (h.unread x) = x :=
  (View.readAt_full _ _ inb).trans (h.read_unread x)

/-- A load of a part of a whole buffer that reads `x` yields that part of `x`. -/
theorem load_part (h : M.IsWhole) (x : s.Idx → Elt F e) (r : Rect s) :
    View.readAt (Elt F) M.view r.toLoadRect (h.unread x) = View.ld x r :=
  (View.readAt_eq_ld _ _ r).trans (congrArg (fun y => View.ld y r) (h.read_unread x))

/-- A load of a part of a buffer whose whole was last written with `x` yields that part of `x`. -/
theorem load_part_written [∀ e, Nonempty (Elt F e)] (v : View sig κ sp s e) {off : Fin s.rank → ℕ} (inb : ∀ a, off a + s.size a ≤ s.size a)
    (x : s.Idx → Elt F e) (r : Rect s) :
    v.readCov [⟨Rect.unit off s.size inb, x⟩] r.toLoadRect = View.ld x r :=
  (View.readAt_eq_ld _ _ r).trans (congrArg (fun y => View.ld y r) (View.read_writes_full v _ inb x []))

end Cert.Proof.Loads

end
-- ==== Proof.Layer1Body.lean ====
/-
  What one grid point of the first call does to the buffers it is given.

  The first call's body takes the whole features `x`, a block of 200 rows of the adjacency, the first layer's weights and
  bias, the second layer's weights, two result blocks, and a scratch buffer kept from point to point.  At the first point
  it fills the scratch with `x · W1`.  At every point it writes the block of `relu (adj · (x · W1) + b1) · W2` and the
  block of the scaled adjacency.  The two theorems say so for the first point and for a later one, at any number system.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Loads
public import Idealize.ShloMosaic.Lib.Pipeline.FrameBody
public import Idealize.ShloMosaic.Lib.Tactic
public import Idealize.ShloMosaic.Lib.WordCmp
public import Idealize.ShloMosaic.Lib.VecWindow

@[expose] public section

set_option maxRecDepth 16384

noncomputable section

namespace Cert.Proof.Layer1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Loads

variable {F : FTy → Type} [FloatOps F]

local notation "𝕄" => MT nD τ sig Unit (Elt F) ℕ (UR sig nD τ) ℕ

/-- The body's test "is this the first point", as the body computes it from the point's coordinate. -/
abbrev isFirst (i : grid0.Coords) : Prop :=
  Scalar.cmpi .ne (Scalar.extui (Scalar.cmpi .eq (BitVec.ofNat 32 (i 0).val) 0#32)) 0#32 = 1#1

/-- The test holds at point 0 and nowhere else. -/
theorem isFirst_iff (t : Fin grid0.N) : isFirst (grid0.coords t) ↔ t.val = 0 := by
  have ht : t.val < 50 := lt_of_lt_of_eq t.isLt N_0
  have e : (grid0.coords t 0).val = t.val / 1 % 50 := Pipeline.Grid.coords_val t 0 (by decide) rfl
  have h : isFirst (grid0.coords t) ↔ t.val % 50 = 0 := by
    simp only [isFirst, e]
    word_cmp
  rw [h]; omega

section Body

variable (c : Dev nD) (i : grid0.Coords)
  (arg1 : Memref sig .tc .vmem S10000x128 .f32) (harg1 : arg1.IsWhole)
  (arg2 : Memref sig .tc .vmem S200x10000 .f32) (harg2 : arg2.IsWhole)
  (arg3 : Memref sig .tc .vmem S128x64 .f32) (harg3 : arg3.IsWhole)
  (arg4 : Memref sig .tc .vmem S1x64 .f32) (harg4 : arg4.IsWhole)
  (arg5 : Memref sig .tc .vmem S64x40 .f32) (harg5 : arg5.IsWhole)
  (arg6 : Memref sig .tc .vmem S200x40 .f32) (harg6 : arg6.IsWhole)
  (arg7 : Memref sig .tc .vmem S200x10000 .fp8e4m3) (harg7 : arg7.IsWhole)
  (arg8 : Memref sig .tc .vmem S10000x64 .f32) (harg8 : arg8.IsWhole)
  (x : Vec F S10000x128 .f32) (a : Vec F S200x10000 .f32) (w : Vec F S128x64 .f32)
  (b : Vec F S1x64 .f32) (w' : Vec F S64x40 .f32)

/-- The five inputs' buffers, each at its contents. -/
abbrev inputs : sProp 𝕄 :=
  iprop(owns (c : Thread nD τ) arg1 fullShare x ∗ owns (c : Thread nD τ) arg2 fullShare a
    ∗ owns (c : Thread nD τ) arg3 fullShare w ∗ owns (c : Thread nD τ) arg4 fullShare b
    ∗ owns (c : Thread nD τ) arg5 fullShare w')

/-- The two result blocks and the scratch as the body leaves them, the scratch holding `s`. -/
abbrev results (s : Vec F S10000x64 .f32) : sProp 𝕄 :=
  iprop(owns (c : Thread nD τ) arg6 fullShare (k0_pay2 a s b w') ∗ owns (c : Thread nD τ) arg7 fullShare (k0_pay3 a)
    ∗ owns (c : Thread nD τ) arg8 fullShare s)

set_option maxHeartbeats 2000000 in
/-- At the first point, whatever the scratch held, the body leaves the product of its first and third inputs in it and the
    two result blocks computed from that. -/
theorem first_point (hi : isFirst i) (E : Set ℕ) (K : PUnit → sProp 𝕄) :
    iprop(inputs c arg1 arg2 arg3 arg4 arg5 x a w b w' ∗ (∃ d, owns (c : Thread nD τ) arg6 fullShare d)
        ∗ (∃ d, owns (c : Thread nD τ) arg7 fullShare d) ∗ (∃ d, owns (c : Thread nD τ) arg8 fullShare d)
        ∗ (iprop(inputs c arg1 arg2 arg3 arg4 arg5 x a w b w' ∗ results c arg6 arg7 arg8 a b w' (k0_pay1 x w)) -∗ K ⟨⟩))
      ⊢ wp frame (wpE (defs₀ (F := F)) Variants.none c none) E
          (cc0__layer1_body i arg1 harg1 arg2 harg2 arg3 harg3 arg4 harg4 arg5 harg5 arg6 harg6 arg7 harg7 arg8 harg8) K := by
  simp only [cc0__layer1_body_eq_skeleton]; unfold cc0__layer1_body_skel
  unfold inputs results owns
  iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%d6, %f6, -, H6⟩, ⟨%ds, %fs, -, HS⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | sl_exact hi)
  sl_step
  iapply Hk
  isplitl [H0 H1 H2 H3 H4]
  · isplitl [H0]
    · iexists _; isplitr; swap; · iexact H0
      ipureintro; exact harg1.read_unread _
    isplitl [H1]
    · iexists _; isplitr; swap; · iexact H1
      ipureintro; exact harg2.read_unread _
    isplitl [H2]
    · iexists _; isplitr; swap; · iexact H2
      ipureintro; exact harg3.read_unread _
    isplitl [H3]
    · iexists _; isplitr; swap; · iexact H3
      ipureintro; exact harg4.read_unread _
    iexists _; isplitr; swap; · iexact H4
    ipureintro; exact harg5.read_unread _
  isplitl [H5]
  · iexists _; isplitr; swap; · iexact H5
    ipureintro; sl_unfold_words
    exact (View.read_writes_full _ _ _ _ _).trans (congr (congr (congr (congrArg k0_pay2 (load_whole harg2 a _)) ((View.readCov_full _ _ _ _ _).trans (congr (congrArg k0_pay1 (load_whole harg1 x _)) (load_whole harg3 w _)))) (load_whole harg4 b _)) (load_whole harg5 w' _))
  isplitl [H6]
  · iexists _; isplitr; swap; · iexact H6
    ipureintro
    exact (View.read_writes_full _ _ _ _ _).trans (congrArg k0_pay3 (load_whole harg2 a _))
  iexists _; isplitr; swap; · iexact HS
  ipureintro; sl_unfold_words
  exact (View.read_writes_full _ _ _ _ _).trans (congr (congrArg k0_pay1 (load_whole harg1 x _)) (load_whole harg3 w _))

set_option maxHeartbeats 2000000 in
/-- At a later point the scratch stays as it was, and the two result blocks are computed from it. -/
theorem later_point (hi : ¬ isFirst i) (s : Vec F S10000x64 .f32) (E : Set ℕ) (K : PUnit → sProp 𝕄) :
    iprop(inputs c arg1 arg2 arg3 arg4 arg5 x a w b w' ∗ (∃ d, owns (c : Thread nD τ) arg6 fullShare d)
        ∗ (∃ d, owns (c : Thread nD τ) arg7 fullShare d) ∗ owns (c : Thread nD τ) arg8 fullShare s
        ∗ (iprop(inputs c arg1 arg2 arg3 arg4 arg5 x a w b w' ∗ results c arg6 arg7 arg8 a b w' s) -∗ K ⟨⟩))
      ⊢ wp frame (wpE (defs₀ (F := F)) Variants.none c none) E
          (cc0__layer1_body i arg1 harg1 arg2 harg2 arg3 harg3 arg4 harg4 arg5 harg5 arg6 harg6 arg7 harg7 arg8 harg8) K := by
  simp only [cc0__layer1_body_eq_skeleton]; unfold cc0__layer1_body_skel
  unfold inputs results owns
  iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%d6, %f6, -, H6⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg8.eq_unread hfs
  sl_exec (disch := first | sl_exact hi)
  sl_step
  iapply Hk
  isplitl [H0 H1 H2 H3 H4]
  · isplitl [H0]
    · iexists _; isplitr; swap; · iexact H0
      ipureintro; exact harg1.read_unread _
    isplitl [H1]
    · iexists _; isplitr; swap; · iexact H1
      ipureintro; exact harg2.read_unread _
    isplitl [H2]
    · iexists _; isplitr; swap; · iexact H2
      ipureintro; exact harg3.read_unread _
    isplitl [H3]
    · iexists _; isplitr; swap; · iexact H3
      ipureintro; exact harg4.read_unread _
    iexists _; isplitr; swap; · iexact H4
    ipureintro; exact harg5.read_unread _
  isplitl [H5]
  · iexists _; isplitr; swap; · iexact H5
    ipureintro
    exact (View.read_writes_full _ _ _ _ _).trans (congr (congr (congr (congrArg k0_pay2 (load_whole harg2 a _)) (load_whole harg8 s _)) (load_whole harg4 b _)) (load_whole harg5 w' _))
  isplitl [H6]
  · iexists _; isplitr; swap; · iexact H6
    ipureintro
    exact (View.read_writes_full _ _ _ _ _).trans (congrArg k0_pay3 (load_whole harg2 a _))
  iexists _; isplitr; swap; · iexact HS
  ipureintro; exact harg8.read_unread s

end Body

end Cert.Proof.Layer1

end
-- ==== Proof.Carried.lean ====
/-
  A scratch buffer a body keeps from point to point: before the first point it holds anything, before every later one it
  holds `s`.  What it was taken from is got back at any time by giving the scratch up.
-/
module

public import proofs.«01_k».proof.Proof.Gen.KernelIdeal.Launch
public import Idealize.ShloMosaic.Lib.Pipeline.FrameBody
public import Idealize.ShloMosaic.Lib.Tactic
public import Idealize.ShloMosaic.Lib.VecWindow

@[expose] public section

set_option maxRecDepth 16384

noncomputable section

namespace Cert.Proof.Scratch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable {c : Dev nD} {sh : Shape} {e : EltTy} {M : Memref sig .tc .vmem sh e}

/-- Before point `n` the scratch `M` holds `s`, unless `n` is the first; with it gone `R` is whole again. -/
def carried (c : Dev nD) (M : Memref sig .tc .vmem sh e) (s : sh.Idx → Elt F e) (R : sProp 𝕄) (n : ℕ) : sProp 𝕄 :=
  iprop((∃ d, ⌜n ≠ 0 → d = s⌝ ∗ owns (c : Thread nD τ) M fullShare d) ∗ ((∃ d, owns (c : Thread nD τ) M fullShare d) -∗ R))

/-- Anything that has the scratch in it starts the first point. -/
theorem carried_start {s : sh.Idx → Elt F e} {R R' : sProp 𝕄} (h : R = iprop((∃ d, owns (c : Thread nD τ) M fullShare d) ∗ R')) :
    R ⊢ carried c M s R 0 := by
  subst h
  unfold carried
  iintro ⟨⟨%d, HS⟩, HR⟩
  isplitl [HS]
  · iexists d; isplitr
    · ipureintro; exact fun h => absurd rfl h
    iexact HS
  iintro HS
  isplitl [HS] <;> iassumption

/-- Giving the scratch up at any point gives back what it was taken from. -/
theorem carried_end {s : sh.Idx → Elt F e} {R : sProp 𝕄} {n : ℕ} : carried c M s R n ⊢ R := by
  unfold carried
  iintro ⟨⟨%d, -, HS⟩, HR⟩
  iapply HR
  iexists d
  iexact HS

/-- At the first point the scratch holds anything. -/
theorem carried_first {s : sh.Idx → Elt F e} {R : sProp 𝕄} {n : ℕ} :
    carried c M s R n ⊢ iprop((∃ d, owns (c : Thread nD τ) M fullShare d) ∗ ((∃ d, owns (c : Thread nD τ) M fullShare d) -∗ R)) := by
  unfold carried
  iintro ⟨⟨%d, -, HS⟩, HR⟩
  isplitl [HS]
  · iexists d; iexact HS
  iexact HR

/-- At a later point the scratch holds `s`. -/
theorem carried_later {s : sh.Idx → Elt F e} {R : sProp 𝕄} {n : ℕ} (hn : n ≠ 0) :
    carried c M s R n ⊢ iprop(owns (c : Thread nD τ) M fullShare s ∗ ((∃ d, owns (c : Thread nD τ) M fullShare d) -∗ R)) := by
  unfold carried
  iintro ⟨⟨%d, %h, HS⟩, HR⟩
  obtain rfl := h hn
  isplitl [HS] <;> iassumption

/-- A scratch that holds `s` is ready for any later point. -/
theorem carried_mk {s : sh.Idx → Elt F e} {R : sProp 𝕄} (n : ℕ) :
    iprop(owns (c : Thread nD τ) M fullShare s ∗ ((∃ d, owns (c : Thread nD τ) M fullShare d) -∗ R)) ⊢ carried c M s R n := by
  unfold carried
  iintro ⟨HS, HR⟩
  isplitl [HS]
  · iexists s; isplitr
    · ipureintro; exact fun _ => rfl
    iexact HS
  iexact HR

end Cert.Proof.Scratch

end
-- ==== Proof.Layer1Data.lean ====
/-
  The first call point by point: what each of its 50 points finds and leaves.
-/
module

public import proofs.«01_k».proof.Proof.Layer1Body
public import proofs.«01_k».proof.Proof.Carried
public import Idealize.ShloMosaic.Lib.Pipeline.Frame
public import Idealize.ShloMosaic.Lib.Pipeline.FrameBody

@[expose] public section

set_option maxRecDepth 16384

noncomputable section

namespace Cert.Proof.Layer1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Proof.Scratch

variable {F : FTy → Type} [FloatOps F]

local notation "𝕄" => MT nD τ sig Unit (Elt F) ℕ (UR sig nD τ) ℕ

variable (c : Dev nD) (V : Valuation τ sig (Elt F))

/-- The part of window `w`'s array that point `t` works on, when the call starts with its arrays at `V`. -/
def block (w : Fin cfg0.W) (t : Fin cfg0.N) : ((cfg0.win w).xblock (cfg0.grid.coords t)).Idx → Elt F (cfg0.win w).elt :=
  ((cfg0.win w).blk t).view.read (Elt F) (V (Pipeline.arrRef spec0 w))

/-- The first point. -/
abbrev t₀ : Fin cfg0.N := ⟨0, by rw [show cfg0.N = 50 from N_0]; decide⟩

/-- What the scratch holds from the first point on: the product of the features and the first layer's weights. -/
def scratch : Vec F S10000x64 .f32 := k0_pay1 (block V 0 t₀) (block V 2 t₀)

/-- The buffers the call keeps to itself besides the staging buffers, and the random generator's register. -/
abbrev rest : sProp 𝕄 :=
  iprop(Pipeline.scopedRest (Ix := Unit) (Name := ℕ) (U := UR sig nD τ) (Lvl := ℕ) (Val := Elt F) spec0 c ∗ (∃ r, prngReg c r))

/-- What the call does, point by point: every input's block stays, the result blocks are the body's, and the scratch is
    carried. -/
def dat : Dat τ (Elt F) Unit ℕ (UR sig nD τ) ℕ cfg0 c where
  A w := V (Pipeline.arrRef spec0 w)
  after w t := match w with
    | ⟨0, _⟩ => block V 0 t
    | ⟨1, _⟩ => block V 1 t
    | ⟨2, _⟩ => block V 2 t
    | ⟨3, _⟩ => block V 3 t
    | ⟨4, _⟩ => block V 4 t
    | ⟨5, _⟩ => k0_pay2 (block V 1 t) (scratch V) (block V 3 t) (block V 4 t)
    | ⟨6, _⟩ => k0_pay3 (block V 1 t)
  Φ t := carried c (Memref.whole cc0_scratch0) (scratch V) (rest c) t.val
  q _ := fullShare
  owed _ := 0

theorem dat_A (w : Fin cfg0.W) : (dat c V).A w = V (Pipeline.arrRef spec0 w) := rfl

/-- Every input's buffer is left at its block. -/
theorem after_0 (t : Fin cfg0.N) : (dat c V).after 0 t = block V 0 t := by dsimp only [dat]
theorem after_1 (t : Fin cfg0.N) : (dat c V).after 1 t = block V 1 t := by dsimp only [dat]
theorem after_2 (t : Fin cfg0.N) : (dat c V).after 2 t = block V 2 t := by dsimp only [dat]
theorem after_3 (t : Fin cfg0.N) : (dat c V).after 3 t = block V 3 t := by dsimp only [dat]
theorem after_4 (t : Fin cfg0.N) : (dat c V).after 4 t = block V 4 t := by dsimp only [dat]
/-- The result blocks are the body's. -/
theorem after_5 (t : Fin cfg0.N) : (dat c V).after 5 t = k0_pay2 (block V 1 t) (scratch V) (block V 3 t) (block V 4 t) := by dsimp only [dat]
theorem after_6 (t : Fin cfg0.N) : (dat c V).after 6 t = k0_pay3 (block V 1 t) := by dsimp only [dat]

/-- Whether it was fetched at this point or an earlier one, an input's buffer holds its block when the body starts. -/
theorem before_0 (t : Fin cfg0.N) (d) : (dat c V).before 0 t d = block V 0 t :=
  ((dat c V).before_in_eq_fetched 0 rfl (fun _ => rfl) (fun _ _ _ => rfl)
    (fun t => by rw [after_0]; unfold Dat.blockOf block; rw [dat_A]; try rfl) t d).trans
    (by unfold Dat.fetched Dat.blockOf block; rw [dat_A]; try rfl)
theorem before_1 (t : Fin cfg0.N) (d) : (dat c V).before 1 t d = block V 1 t :=
  ((dat c V).before_in_eq_fetched 1 rfl (fun _ => rfl) (fun _ _ _ => rfl)
    (fun t => by rw [after_1]; unfold Dat.blockOf block; rw [dat_A]; try rfl) t d).trans
    (by unfold Dat.fetched Dat.blockOf block; rw [dat_A]; try rfl)
theorem before_2 (t : Fin cfg0.N) (d) : (dat c V).before 2 t d = block V 2 t :=
  ((dat c V).before_in_eq_fetched 2 rfl (fun _ => rfl) (fun _ _ _ => rfl)
    (fun t => by rw [after_2]; unfold Dat.blockOf block; rw [dat_A]; try rfl) t d).trans
    (by unfold Dat.fetched Dat.blockOf block; rw [dat_A]; try rfl)
theorem before_3 (t : Fin cfg0.N) (d) : (dat c V).before 3 t d = block V 3 t :=
  ((dat c V).before_in_eq_fetched 3 rfl (fun _ => rfl) (fun _ _ _ => rfl)
    (fun t => by rw [after_3]; unfold Dat.blockOf block; rw [dat_A]; try rfl) t d).trans
    (by unfold Dat.fetched Dat.blockOf block; rw [dat_A]; try rfl)
theorem before_4 (t : Fin cfg0.N) (d) : (dat c V).before 4 t d = block V 4 t :=
  ((dat c V).before_in_eq_fetched 4 rfl (fun _ => rfl) (fun _ _ _ => rfl)
    (fun t => by rw [after_4]; unfold Dat.blockOf block; rw [dat_A]; try rfl) t d).trans
    (by unfold Dat.fetched Dat.blockOf block; rw [dat_A]; try rfl)

/-- What the body is given at point `t`. -/
def bodyPre (t : Fin cfg0.N) : sProp 𝕄 :=
  iprop((dat c V).Φ t.castSucc ∗ (dat c V).owesAt () t.castSucc
    ∗ (∃ d, owns (c : Thread nD τ) (st0_0 t) fullShare ((dat c V).before 0 t d))
    ∗ (∃ d, owns (c : Thread nD τ) (st0_1 t) fullShare ((dat c V).before 1 t d))
    ∗ (∃ d, owns (c : Thread nD τ) (st0_2 t) fullShare ((dat c V).before 2 t d))
    ∗ (∃ d, owns (c : Thread nD τ) (st0_3 t) fullShare ((dat c V).before 3 t d))
    ∗ (∃ d, owns (c : Thread nD τ) (st0_4 t) fullShare ((dat c V).before 4 t d))
    ∗ (∃ d, owns (c : Thread nD τ) (st0_5 t) fullShare ((dat c V).before 5 t d))
    ∗ (∃ d, owns (c : Thread nD τ) (st0_6 t) fullShare ((dat c V).before 6 t d)))

/-- What it gives back. -/
def bodyPost (t : Fin cfg0.N) : sProp 𝕄 :=
  iprop((dat c V).Φ t.succ ∗ (dat c V).owesAt () t.succ
    ∗ owns (c : Thread nD τ) (st0_0 t) fullShare ((dat c V).after 0 t)
    ∗ owns (c : Thread nD τ) (st0_1 t) fullShare ((dat c V).after 1 t)
    ∗ owns (c : Thread nD τ) (st0_2 t) fullShare ((dat c V).after 2 t)
    ∗ owns (c : Thread nD τ) (st0_3 t) fullShare ((dat c V).after 3 t)
    ∗ owns (c : Thread nD τ) (st0_4 t) fullShare ((dat c V).after 4 t)
    ∗ owns (c : Thread nD τ) (st0_5 t) fullShare ((dat c V).after 5 t)
    ∗ owns (c : Thread nD τ) (st0_6 t) fullShare ((dat c V).after 6 t))

set_option maxHeartbeats 3200000 in
/-- The body at any point turns the one into the other. -/
theorem body_point (t : Fin cfg0.N) :
    bodyPre c V t ⊢ wp frame (wpE (defs₀ (F := F)) Variants.none c none) Set.univ (bodyAt0 t) (fun _ => bodyPost c V t) := by
  unfold bodyPre bodyPost bodyAt0
  simp only [before_0, before_1, before_2, before_3, before_4]
  rw [show (dat c V).owesAt () t.succ = (dat c V).owesAt () t.castSucc from rfl, after_0, after_1, after_2, after_3, after_4, after_5, after_6]
  rw [show (dat c V).Φ t.castSucc = carried c (Memref.whole cc0_scratch0) (scratch V) (rest c) t.val from rfl,
    show (dat c V).Φ t.succ = carried c (Memref.whole cc0_scratch0) (scratch V) (rest c) (t.val + 1) from rfl]
  by_cases h : t.val = 0
  · have ht : t = t₀ := Fin.ext h
    subst ht
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ := carried_first $$ HΦ
    icases HΦ with ⟨HS, HR⟩
    iapply (first_point c (grid0.coords t₀) _ _ _ _ _ _ _ _ _ _ _ _ _ _ _ _ _ _ _ _ _ ((isFirst_iff _).mpr h) Set.univ _)
    isplitl [H0 H1 H2 H3 H4]
    · unfold inputs
      isplitl [H0]; · iexact H0
      isplitl [H1]; · iexact H1
      isplitl [H2]; · iexact H2
      isplitl [H3]; · iexact H3
      iexact H4
    isplitl [H5]; · iexists _; iexact H5
    isplitl [H6]; · iexists _; iexact H6
    isplitl [HS]; · iexact HS
    unfold inputs results
    iintro ⟨⟨H0, H1, H2, H3, H4⟩, H5, H6, HS⟩
    isplitl [HS HR]
    · iapply (carried_mk (_ + 1))
      isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ := carried_later h $$ HΦ
    icases HΦ with ⟨HS, HR⟩
    iapply (later_point c (grid0.coords t) _ _ _ _ _ _ _ _ _ _ _ _ _ _ _ _ _ _ _ _ _ (fun hc => h ((isFirst_iff t).mp hc)) (scratch V) Set.univ _)
    isplitl [H0 H1 H2 H3 H4]
    · unfold inputs
      isplitl [H0]; · iexact H0
      isplitl [H1]; · iexact H1
      isplitl [H2]; · iexact H2
      isplitl [H3]; · iexact H3
      iexact H4
    isplitl [H5]; · iexists _; iexact H5
    isplitl [H6]; · iexists _; iexact H6
    isplitl [HS]; · iexact HS
    unfold inputs results
    iintro ⟨⟨H0, H1, H2, H3, H4⟩, H5, H6, HS⟩
    isplitl [HS HR]
    · iapply (carried_mk (_ + 1))
      isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The call's table of bodies gives this body at every point. -/
theorem defs₀_row (t : Fin cfg0.N) : defs₀ (F := F) .tc cfg0.body (cfg0.bodyArgs t (cfg0.slots t)) = bodyAt0 t := by
  unfold defs₀; rw [Defs.onTc_tc]

/-- The same as the pipeline asks for it. -/
theorem body_obligation : BodyObligation (dat c V) (defs₀ (F := F)) Variants.none () Set.univ := fun t => by
  rw [bigSep_W0, bigSep_W0, defs₀_row]
  exact triple_restated (body_point c V t) rfl .rfl fun _ => .rfl

/-- The call's own buffers have the scratch among them. -/
theorem rest_split : ∃ R : sProp 𝕄, rest c = iprop((∃ d, owns (c : Thread nD τ) (Memref.whole cc0_scratch0) fullShare d) ∗ R) := by
  unfold rest
  rw [Pipeline.scopedRest_eq_of_list spec0 c [cc0_scratch0, cc1_stg0_0, cc1_stg0_1, cc1_stg1_0, cc1_stg2_0, cc1_stg3_0, cc1_stg3_1, cc1_scratch0]
    (by decide) (by decide)]
  simp only [owns_whole]
  exact ⟨_, equiv_iff.mp ⟨BI.sep_assoc, BI.sep_assoc'⟩⟩

/-- The call's own buffers start the first point, and come back after the last. -/
theorem start : iprop(Pipeline.scopedRest (Ix := Unit) (Name := ℕ) (U := UR sig nD τ) (Lvl := ℕ) (Val := Elt F) spec0 c ∗ (∃ r, prngReg c r)) ⊢ (dat c V).Φ 0 := by
  obtain ⟨R, h⟩ := rest_split (F := F) c
  exact carried_start h

theorem finish : (dat c V).Φ (Fin.last cfg0.N) ⊢ iprop(Pipeline.scopedRest (Ix := Unit) (Name := ℕ) (U := UR sig nD τ) (Lvl := ℕ) (Val := Elt F) spec0 c ∗ (∃ r, prngReg c r)) :=
  carried_end

end Cert.Proof.Layer1

end
-- ==== Proof.Layer2Body.lean ====
/-
  What one grid point of the second call does to the buffers it is given.

  The second call's body takes a block of 1000 rows of the scaled adjacency, the whole of the first call's `t`, the
  second layer's bias, a result block, and a scratch buffer kept from point to point.  At the first point it fills the
  scratch with `t` in the narrow type.  At every point it multiplies its block, in four pieces of columns, with the
  scratch, in four pieces of rows, adds the four products up, scales the sum back, adds the bias, and writes the
  logarithm of the softmax of every row.  The two theorems say so for the first point and for a later one, at any number
  system.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Loads
public import Idealize.ShloMosaic.Lib.Pipeline.FrameBody
public import Idealize.ShloMosaic.Lib.Tactic
public import Idealize.ShloMosaic.Lib.WordCmp
public import Idealize.ShloMosaic.Lib.VecWindow

@[expose] public section

set_option maxRecDepth 16384

noncomputable section

namespace Cert.Proof.Layer2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Loads

variable {F : FTy → Type} [FloatOps F]

local notation "𝕄" => MT nD τ sig Unit (Elt F) ℕ (UR sig nD τ) ℕ

/-- The body's test "is this the first point", as the body computes it from the point's coordinate. -/
abbrev isFirst (i : grid1.Coords) : Prop :=
  Scalar.cmpi .ne (Scalar.extui (Scalar.cmpi .eq (BitVec.ofNat 32 (i 0).val) 0#32)) 0#32 = 1#1

/-- The test holds at point 0 and nowhere else. -/
theorem isFirst_iff (t : Fin grid1.N) : isFirst (grid1.coords t) ↔ t.val = 0 := by
  have ht : t.val < 10 := lt_of_lt_of_eq t.isLt N_1
  have e : (grid1.coords t 0).val = t.val / 1 % 10 := Pipeline.Grid.coords_val t 0 (by decide) rfl
  have h : isFirst (grid1.coords t) ↔ t.val % 10 = 0 := by
    simp only [isFirst, e]
    word_cmp
  rw [h]; omega

/-- The sum of the four products of the pieces of the block `q` with the pieces of the scratch `s`, scaled back. -/
def pieces (q : Vec F S1000x10000 .fp8e4m3) (s : Vec F S10000x40 .bf16) : FVec F S1000x40 .f32 :=
  k1_pay3 (View.ld q (Rect.unit (s := S1000x10000) ![0, 0] S1000x2560.size inb_S1000x10000_S1000x2560_0_0))
    (View.ld s (Rect.unit (s := S10000x40) ![0, 0] S2560x40.size inb_S10000x40_S2560x40_0_0))
    (View.ld q (Rect.unit (s := S1000x10000) ![0, 2560] S1000x2560.size inb_S1000x10000_S1000x2560_0_2560))
    (View.ld s (Rect.unit (s := S10000x40) ![2560, 0] S2560x40.size inb_S10000x40_S2560x40_2560_0))
    (View.ld q (Rect.unit (s := S1000x10000) ![0, 5120] S1000x2560.size inb_S1000x10000_S1000x2560_0_5120))
    (View.ld s (Rect.unit (s := S10000x40) ![5120, 0] S2560x40.size inb_S10000x40_S2560x40_5120_0))
    (View.ld q (Rect.unit (s := S1000x10000) ![0, 7680] S1000x2320.size inb_S1000x10000_S1000x2320_0_7680))
    (View.ld s (Rect.unit (s := S10000x40) ![7680, 0] S2320x40.size inb_S10000x40_S2320x40_7680_0))

section Body

variable (c : Dev nD) (i : grid1.Coords)
  (arg1 : Memref sig .tc .vmem S1000x10000 .fp8e4m3) (harg1 : arg1.IsWhole)
  (arg2 : Memref sig .tc .vmem S10000x40 .f32) (harg2 : arg2.IsWhole)
  (arg3 : Memref sig .tc .vmem S1x40 .f32) (harg3 : arg3.IsWhole)
  (arg4 : Memref sig .tc .vmem S1000x40 .f32) (harg4 : arg4.IsWhole)
  (arg5 : Memref sig .tc .vmem S10000x40 .bf16) (harg5 : arg5.IsWhole)
  (q : Vec F S1000x10000 .fp8e4m3) (t : Vec F S10000x40 .f32) (b : Vec F S1x40 .f32)

/-- The three inputs' buffers, each at its contents. -/
abbrev inputs : sProp 𝕄 :=
  iprop(owns (c : Thread nD τ) arg1 fullShare q ∗ owns (c : Thread nD τ) arg2 fullShare t ∗ owns (c : Thread nD τ) arg3 fullShare b)

/-- The result block and the scratch, when the scratch holds `s`. -/
abbrev results (s : Vec F S10000x40 .bf16) : sProp 𝕄 :=
  iprop(owns (c : Thread nD τ) arg4 fullShare (k1_pay1 (pieces q s) (k1_pay4 b)) ∗ owns (c : Thread nD τ) arg5 fullShare s)

set_option maxHeartbeats 2000000 in
/-- At the first point, whatever the scratch held, the body leaves `t` in it, and the result block computed from that. -/
theorem first_point (hi : isFirst i) (E : Set ℕ) (K : PUnit → sProp 𝕄) :
    iprop(inputs c arg1 arg2 arg3 q t b ∗ (∃ d, owns (c : Thread nD τ) arg4 fullShare d) ∗ (∃ d, owns (c : Thread nD τ) arg5 fullShare d)
        ∗ (iprop(inputs c arg1 arg2 arg3 q t b ∗ results c arg4 arg5 q b (k1_pay2 t)) -∗ K ⟨⟩))
      ⊢ wp frame (wpE (defs₀ (F := F)) Variants.none c none) E
          (cc1__layer2_body i arg1 harg1 arg2 harg2 arg3 harg3 arg4 harg4 arg5 harg5) K := by
  simp only [cc1__layer2_body_eq_skeleton]; unfold cc1__layer2_body_skel
  simp only [k1_part1_eq_skeleton]; unfold k1_part1_skel
  unfold inputs results owns
  iintro ⟨⟨⟨%f0, %hf0, H0⟩, ⟨%f1, %hf1, H1⟩, ⟨%f2, %hf2, H2⟩⟩, ⟨%d3, %f3, -, H3⟩, ⟨%ds, %fs, -, HS⟩, Hk⟩
  obtain rfl := harg1.eq_unread hf0; obtain rfl := harg2.eq_unread hf1; obtain rfl := harg3.eq_unread hf2
  sl_exec (disch := first | sl_exact hi)
  sl_step
  iapply Hk
  isplitl [H0 H1 H2]
  · isplitl [H0]
    · iexists _; isplitr; swap; · iexact H0
      ipureintro; exact harg1.read_unread _
    isplitl [H1]
    · iexists _; isplitr; swap; · iexact H1
      ipureintro; exact harg2.read_unread _
    iexists _; isplitr; swap; · iexact H2
    ipureintro; exact harg3.read_unread _
  isplitl [H3]
  · iexists _; isplitr; swap; · iexact H3
    ipureintro; sl_unfold_words
    exact (View.read_writes_full _ _ _ _ _).trans (congr (congrArg k1_pay1
      (congr (congr (congr (congr (congr (congr (congr (congrArg k1_pay3 (load_part harg1 q _)) ((load_part_written _ _ _ _).trans (congrArg (fun s => View.ld s _) (congrArg k1_pay2 (load_whole harg2 t _))))) (load_part harg1 q _)) ((load_part_written _ _ _ _).trans (congrArg (fun s => View.ld s _) (congrArg k1_pay2 (load_whole harg2 t _))))) (load_part harg1 q _)) ((load_part_written _ _ _ _).trans (congrArg (fun s => View.ld s _) (congrArg k1_pay2 (load_whole harg2 t _))))) (load_part harg1 q _)) ((load_part_written _ _ _ _).trans (congrArg (fun s => View.ld s _) (congrArg k1_pay2 (load_whole harg2 t _))))))
      (congrArg k1_pay4 (load_whole harg3 b _)))
  iexists _; isplitr; swap; · iexact HS
  ipureintro; sl_unfold_words
  exact (View.read_writes_full _ _ _ _ _).trans (congrArg k1_pay2 (load_whole harg2 t _))

set_option maxHeartbeats 2000000 in
/-- At a later point the scratch stays as it was, and the result block is computed from it. -/
theorem later_point (hi : ¬ isFirst i) (s : Vec F S10000x40 .bf16) (E : Set ℕ) (K : PUnit → sProp 𝕄) :
    iprop(inputs c arg1 arg2 arg3 q t b ∗ (∃ d, owns (c : Thread nD τ) arg4 fullShare d) ∗ owns (c : Thread nD τ) arg5 fullShare s
        ∗ (iprop(inputs c arg1 arg2 arg3 q t b ∗ results c arg4 arg5 q b s) -∗ K ⟨⟩))
      ⊢ wp frame (wpE (defs₀ (F := F)) Variants.none c none) E
          (cc1__layer2_body i arg1 harg1 arg2 harg2 arg3 harg3 arg4 harg4 arg5 harg5) K := by
  simp only [cc1__layer2_body_eq_skeleton]; unfold cc1__layer2_body_skel
  simp only [k1_part1_eq_skeleton]; unfold k1_part1_skel
  unfold inputs results owns
  iintro ⟨⟨⟨%f0, %hf0, H0⟩, ⟨%f1, %hf1, H1⟩, ⟨%f2, %hf2, H2⟩⟩, ⟨%d3, %f3, -, H3⟩, ⟨%fs, %hfs, HS⟩, Hk⟩
  obtain rfl := harg1.eq_unread hf0; obtain rfl := harg2.eq_unread hf1; obtain rfl := harg3.eq_unread hf2; obtain rfl := harg5.eq_unread hfs
  sl_exec (disch := first | sl_exact hi)
  sl_step
  iapply Hk
  isplitl [H0 H1 H2]
  · isplitl [H0]
    · iexists _; isplitr; swap; · iexact H0
      ipureintro; exact harg1.read_unread _
    isplitl [H1]
    · iexists _; isplitr; swap; · iexact H1
      ipureintro; exact harg2.read_unread _
    iexists _; isplitr; swap; · iexact H2
    ipureintro; exact harg3.read_unread _
  isplitl [H3]
  · iexists _; isplitr; swap; · iexact H3
    ipureintro
    exact (View.read_writes_full _ _ _ _ _).trans (congr (congrArg k1_pay1
      (congr (congr (congr (congr (congr (congr (congr (congrArg k1_pay3 (load_part harg1 q _)) (load_part harg5 s _)) (load_part harg1 q _)) (load_part harg5 s _)) (load_part harg1 q _)) (load_part harg5 s _)) (load_part harg1 q _)) (load_part harg5 s _)))
      (congrArg k1_pay4 (load_whole harg3 b _)))
  iexists _; isplitr; swap; · iexact HS
  ipureintro; exact harg5.read_unread s

end Body

end Cert.Proof.Layer2

end
-- ==== Proof.Layer2Data.lean ====
/-
  The second call point by point: what each of its 10 points finds and leaves.
-/
module

public import proofs.«01_k».proof.Proof.Layer2Body
public import proofs.«01_k».proof.Proof.Carried
public import Idealize.ShloMosaic.Lib.Pipeline.Frame
public import Idealize.ShloMosaic.Lib.Pipeline.FrameBody

@[expose] public section

set_option maxRecDepth 16384

noncomputable section

namespace Cert.Proof.Layer2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Proof.Scratch

variable {F : FTy → Type} [FloatOps F]

local notation "𝕄" => MT nD τ sig Unit (Elt F) ℕ (UR sig nD τ) ℕ

variable (c : Dev nD) (V : Valuation τ sig (Elt F))

/-- The part of window `w`'s array that point `t` works on, when the call starts with its arrays at `V`. -/
def block (w : Fin cfg1.W) (t : Fin cfg1.N) : ((cfg1.win w).xblock (cfg1.grid.coords t)).Idx → Elt F (cfg1.win w).elt :=
  ((cfg1.win w).blk t).view.read (Elt F) (V (Pipeline.arrRef spec1 w))

/-- The first point. -/
abbrev t₀ : Fin cfg1.N := ⟨0, by rw [show cfg1.N = 10 from N_1]; decide⟩

/-- What the scratch holds from the first point on: the first call's `t` in the narrow type. -/
def scratch : Vec F S10000x40 .bf16 := k1_pay2 (block V 1 t₀)

/-- The buffers the call keeps to itself besides the staging buffers, and the random generator's register. -/
abbrev rest : sProp 𝕄 :=
  iprop(Pipeline.scopedRest (Ix := Unit) (Name := ℕ) (U := UR sig nD τ) (Lvl := ℕ) (Val := Elt F) spec1 c ∗ (∃ r, prngReg c r))

/-- What the call does, point by point: every input's block stays, the result blocks are the body's, and the scratch is
    carried. -/
def dat : Dat τ (Elt F) Unit ℕ (UR sig nD τ) ℕ cfg1 c where
  A w := V (Pipeline.arrRef spec1 w)
  after w t := match w with
    | ⟨0, _⟩ => block V 0 t
    | ⟨1, _⟩ => block V 1 t
    | ⟨2, _⟩ => block V 2 t
    | ⟨3, _⟩ => k1_pay1 (pieces (block V 0 t) (scratch V)) (k1_pay4 (block V 2 t))
  Φ t := carried c (Memref.whole cc1_scratch0) (scratch V) (rest c) t.val
  q _ := fullShare
  owed _ := 0

theorem dat_A (w : Fin cfg1.W) : (dat c V).A w = V (Pipeline.arrRef spec1 w) := rfl

/-- Every input's buffer is left at its block. -/
theorem after_0 (t : Fin cfg1.N) : (dat c V).after 0 t = block V 0 t := by dsimp only [dat]
theorem after_1 (t : Fin cfg1.N) : (dat c V).after 1 t = block V 1 t := by dsimp only [dat]
theorem after_2 (t : Fin cfg1.N) : (dat c V).after 2 t = block V 2 t := by dsimp only [dat]
/-- The result blocks are the body's. -/
theorem after_3 (t : Fin cfg1.N) : (dat c V).after 3 t = k1_pay1 (pieces (block V 0 t) (scratch V)) (k1_pay4 (block V 2 t)) := by dsimp only [dat]

/-- Whether it was fetched at this point or an earlier one, an input's buffer holds its block when the body starts. -/
theorem before_0 (t : Fin cfg1.N) (d) : (dat c V).before 0 t d = block V 0 t :=
  ((dat c V).before_in_eq_fetched 0 rfl (fun _ => rfl) (fun _ _ _ => rfl)
    (fun t => by rw [after_0]; unfold Dat.blockOf block; rw [dat_A]; try rfl) t d).trans
    (by unfold Dat.fetched Dat.blockOf block; rw [dat_A]; try rfl)
theorem before_1 (t : Fin cfg1.N) (d) : (dat c V).before 1 t d = block V 1 t :=
  ((dat c V).before_in_eq_fetched 1 rfl (fun _ => rfl) (fun _ _ _ => rfl)
    (fun t => by rw [after_1]; unfold Dat.blockOf block; rw [dat_A]; try rfl) t d).trans
    (by unfold Dat.fetched Dat.blockOf block; rw [dat_A]; try rfl)
theorem before_2 (t : Fin cfg1.N) (d) : (dat c V).before 2 t d = block V 2 t :=
  ((dat c V).before_in_eq_fetched 2 rfl (fun _ => rfl) (fun _ _ _ => rfl)
    (fun t => by rw [after_2]; unfold Dat.blockOf block; rw [dat_A]; try rfl) t d).trans
    (by unfold Dat.fetched Dat.blockOf block; rw [dat_A]; try rfl)

/-- What the body is given at point `t`. -/
def bodyPre (t : Fin cfg1.N) : sProp 𝕄 :=
  iprop((dat c V).Φ t.castSucc ∗ (dat c V).owesAt () t.castSucc
    ∗ (∃ d, owns (c : Thread nD τ) (st1_0 t) fullShare ((dat c V).before 0 t d))
    ∗ (∃ d, owns (c : Thread nD τ) (st1_1 t) fullShare ((dat c V).before 1 t d))
    ∗ (∃ d, owns (c : Thread nD τ) (st1_2 t) fullShare ((dat c V).before 2 t d))
    ∗ (∃ d, owns (c : Thread nD τ) (st1_3 t) fullShare ((dat c V).before 3 t d)))

/-- What it gives back. -/
def bodyPost (t : Fin cfg1.N) : sProp 𝕄 :=
  iprop((dat c V).Φ t.succ ∗ (dat c V).owesAt () t.succ
    ∗ owns (c : Thread nD τ) (st1_0 t) fullShare ((dat c V).after 0 t)
    ∗ owns (c : Thread nD τ) (st1_1 t) fullShare ((dat c V).after 1 t)
    ∗ owns (c : Thread nD τ) (st1_2 t) fullShare ((dat c V).after 2 t)
    ∗ owns (c : Thread nD τ) (st1_3 t) fullShare ((dat c V).after 3 t))

set_option maxHeartbeats 3200000 in
/-- The body at any point turns the one into the other. -/
theorem body_point (t : Fin cfg1.N) :
    bodyPre c V t ⊢ wp frame (wpE (defs₀ (F := F)) Variants.none c none) Set.univ (bodyAt1 t) (fun _ => bodyPost c V t) := by
  unfold bodyPre bodyPost bodyAt1
  simp only [before_0, before_1, before_2]
  rw [show (dat c V).owesAt () t.succ = (dat c V).owesAt () t.castSucc from rfl, after_0, after_1, after_2, after_3]
  rw [show (dat c V).Φ t.castSucc = carried c (Memref.whole cc1_scratch0) (scratch V) (rest c) t.val from rfl,
    show (dat c V).Φ t.succ = carried c (Memref.whole cc1_scratch0) (scratch V) (rest c) (t.val + 1) from rfl]
  by_cases h : t.val = 0
  · have ht : t = t₀ := Fin.ext h
    subst ht
    iintro ⟨HΦ, Ho, ⟨%d0, H0⟩, ⟨%d1, H1⟩, ⟨%d2, H2⟩, ⟨%d3, H3⟩⟩
    ihave HΦ := carried_first $$ HΦ
    icases HΦ with ⟨HS, HR⟩
    iapply (first_point c (grid1.coords t₀) _ _ _ _ _ _ _ _ _ _ _ _ _ ((isFirst_iff _).mpr h) Set.univ _)
    isplitl [H0 H1 H2]
    · unfold inputs
      isplitl [H0]; · iexact H0
      isplitl [H1]; · iexact H1
      iexact H2
    isplitl [H3]; · iexists _; iexact H3
    isplitl [HS]; · iexact HS
    unfold inputs results
    iintro ⟨⟨H0, H1, H2⟩, H3, HS⟩
    isplitl [HS HR]
    · iapply (carried_mk (_ + 1))
      isplitl [HS]; · iexact HS
      iexact HR
    isplitl [Ho]; · iexact Ho
    isplitl [H0]; · iexact H0
    isplitl [H1]; · iexact H1
    isplitl [H2]; · iexact H2
    iexact H3
  · iintro ⟨HΦ, Ho, ⟨%d0, H0⟩, ⟨%d1, H1⟩, ⟨%d2, H2⟩, ⟨%d3, H3⟩⟩
    ihave HΦ := carried_later h $$ HΦ
    icases HΦ with ⟨HS, HR⟩
    iapply (later_point c (grid1.coords t) _ _ _ _ _ _ _ _ _ _ _ _ _ (fun hc => h ((isFirst_iff t).mp hc)) (scratch V) Set.univ _)
    isplitl [H0 H1 H2]
    · unfold inputs
      isplitl [H0]; · iexact H0
      isplitl [H1]; · iexact H1
      iexact H2
    isplitl [H3]; · iexists _; iexact H3
    isplitl [HS]; · iexact HS
    unfold inputs results
    iintro ⟨⟨H0, H1, H2⟩, H3, HS⟩
    isplitl [HS HR]
    · iapply (carried_mk (_ + 1))
      isplitl [HS]; · iexact HS
      iexact HR
    isplitl [Ho]; · iexact Ho
    isplitl [H0]; · iexact H0
    isplitl [H1]; · iexact H1
    isplitl [H2]; · iexact H2
    iexact H3

/-- The call's table of bodies gives this body at every point. -/
theorem defs₀_row (t : Fin cfg1.N) : defs₀ (F := F) .tc cfg1.body (cfg1.bodyArgs t (cfg1.slots t)) = bodyAt1 t := by
  unfold defs₀; rw [Defs.onTc_tc]

/-- The same as the pipeline asks for it. -/
theorem body_obligation : BodyObligation (dat c V) (defs₀ (F := F)) Variants.none () Set.univ := fun t => by
  rw [bigSep_W1, bigSep_W1, defs₀_row]
  exact triple_restated (body_point c V t) rfl .rfl fun _ => .rfl

/-- The call's own buffers have the scratch among them. -/
theorem rest_split : ∃ R : sProp 𝕄, rest c = iprop((∃ d, owns (c : Thread nD τ) (Memref.whole cc1_scratch0) fullShare d) ∗ R) := by
  unfold rest
  rw [Pipeline.scopedRest_eq_of_list spec1 c [cc1_scratch0, cc0_stg0_0, cc0_stg1_0, cc0_stg1_1, cc0_stg2_0, cc0_stg3_0, cc0_stg4_0, cc0_stg5_0, cc0_stg5_1, cc0_stg6_0, cc0_stg6_1, cc0_scratch0]
    (by decide) (by decide)]
  simp only [owns_whole]
  exact ⟨_, equiv_iff.mp ⟨BI.sep_assoc, BI.sep_assoc'⟩⟩

/-- The call's own buffers start the first point, and come back after the last. -/
theorem start : iprop(Pipeline.scopedRest (Ix := Unit) (Name := ℕ) (U := UR sig nD τ) (Lvl := ℕ) (Val := Elt F) spec1 c ∗ (∃ r, prngReg c r)) ⊢ (dat c V).Φ 0 := by
  obtain ⟨R, h⟩ := rest_split (F := F) c
  exact carried_start h

theorem finish : (dat c V).Φ (Fin.last cfg1.N) ⊢ iprop(Pipeline.scopedRest (Ix := Unit) (Name := ℕ) (U := UR sig nD τ) (Lvl := ℕ) (Val := Elt F) spec1 c ∗ (∃ r, prngReg c r)) :=
  carried_end

end Cert.Proof.Layer2

end
-- ==== Proof.Run.lean ====
/-
  The whole program: two host reshapes, the first call, the second call.

  Every buffer's contents are followed from the launch to the end: after the host operations, after the first call (whose
  windows' arrays hold what its points wrote into them, every other buffer what it held before) and after the second call
  likewise.  `run` says that every execution ends, with every buffer at these last contents and every counter at zero;
  `args_kept` that no argument's buffer has changed.
-/
module

public import proofs.«01_k».proof.Proof.Gen.KernelIdeal.Regions
public import proofs.«01_k».proof.Proof.Layer1Data
public import proofs.«01_k».proof.Proof.Layer2Data
public import Idealize.ShloMosaic.Lib.Pipeline.RegionArraysS

@[expose] public section

set_option maxRecDepth 16384

noncomputable section

namespace Cert.Proof.Whole

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg RegionSeg LevelCut)

variable {F : FTy → Type} [FloatOps F]

local notation "𝕄" => MT nD τ sig Unit (Elt F) ℕ (UR sig nD τ) ℕ

variable (m : (ℓ : Loc nD τ sig) → Buf (Elt F) ℓ)

/-- Core `c`'s buffers when the first call starts, -/
def atCall1 (c : Dev nD) : Valuation τ sig (Elt F) := V1 m c
/-- when it has ended and the second starts, -/
def atCall2 (c : Dev nD) : Valuation τ sig (Elt F) := Pipeline.afterRegion (Layer1.dat c (atCall1 m c)) (atCall1 m c)
/-- and when that has ended. -/
def atEnd (c : Dev nD) : Valuation τ sig (Elt F) := Pipeline.afterRegion (Layer2.dat c (atCall2 m c)) (atCall2 m c)

/-- The two calls' proof data. -/
def dats : (p : Fin 2) → (c : Dev nD) → Dat τ (Elt F) Unit ℕ (UR sig nD τ) ℕ (cfgs p) c
  | ⟨0, _⟩, c => Layer1.dat c (atCall1 m c)
  | ⟨1, _⟩, c => Layer2.dat c (atCall2 m c)

/-- Every semaphore of a core has one level, zero: nothing is ever owed. -/
def L : GSem nD τ sig → Finset Unit := fun g => if g.1.2 = .tc then {()} else ∅
def lv : GSem nD τ sig → Unit → ℕ := fun _ _ => 0

theorem cut (p : Fin 2) : LevelCut (pcfgs (F := F)) adm () L lv p (fun _ => 0) (fun _ => 0) where
  hι _ _ _ := by unfold L; rw [if_pos rfl]; exact Finset.mem_singleton_self _
  hιb _ _ _ := le_refl _
  hD _ _ _ h := absurd h (lt_irrefl _)

/-- What a core holds beside its buffers between the calls: nothing owed, and the random generator's register. -/
def beside (c : Dev nD) : sProp 𝕄 :=
  iprop((∃ W, owes (c : Thread nD τ) (0 : CellTallies nD τ sig Unit) W) ∗ (∃ r, prngReg c r) ∗ emp)

/-- The first call as a step of the program, -/
def call1 : RegionSeg (pcfgs (F := F)) adm (dats m) () defs₀ Variants.none L lv 0 :=
  RegionSeg.ofHeldIn (pcfgs (F := F)) adm (dats m) () defs₀ Variants.none L lv 0 (fun _ => 0) (Pipeline.ucRefs τ sig)
    (fun c => iprop(∃ r, prngReg c r)) (fun c => iprop(∃ r, prngReg c r)) launch0.toP rfl
    (fun c => (Layer1.body_obligation c (atCall1 m c)).loose) (fun _ _ => rfl) (fun _ => rfl)
    (fun c => (Layer1.dat c (atCall1 m c)).share_full fun _ => rfl)
    (fun c => Layer1.start c (atCall1 m c)) (fun c => Layer1.finish c (atCall1 m c)) (fun _ => 0) (cut 0)
    (fun _ => iprop(emp)) (atCall1 m) (fun _ _ => rfl)

/-- and the second. -/
def call2 : RegionSeg (pcfgs (F := F)) adm (dats m) () defs₀ Variants.none L lv 1 :=
  RegionSeg.ofHeldIn (pcfgs (F := F)) adm (dats m) () defs₀ Variants.none L lv 1 (fun _ => 0) (Pipeline.ucRefs τ sig)
    (fun c => iprop(∃ r, prngReg c r)) (fun c => iprop(∃ r, prngReg c r)) launch1.toP rfl
    (fun c => (Layer2.body_obligation c (atCall2 m c)).loose) (fun _ _ => rfl) (fun _ => rfl)
    (fun c => (Layer2.dat c (atCall2 m c)).share_full fun _ => rfl)
    (fun c => Layer2.start c (atCall2 m c)) (fun c => Layer2.finish c (atCall2 m c)) (fun _ => 0) (cut 1)
    (fun _ => iprop(emp)) (atCall2 m) (fun _ _ => rfl)

theorem arr0_sub : Pipeline.arrRefs (pcfgs (F := F) 0).spec ⊆ Pipeline.ucRefs τ sig :=
  Pipeline.arrRefs_sub_ucRefs spec0 (by decide)

theorem arr1_sub : Pipeline.arrRefs (pcfgs (F := F) 1).spec ⊆ Pipeline.ucRefs τ sig :=
  Pipeline.arrRefs_sub_ucRefs spec1 (by decide)

/-- Each call starts from the buffers' contents before it and ends with those after it. -/
theorem call1_pre (c : Dev nD) : iprop(StableHlo.held (c : Thread nD τ) (Pipeline.ucRefs τ sig) (atCall1 m c) ∗ beside c) ⊢ (call1 m).pre c := by
  unfold call1
  exact RegionSeg.ofHeldIn_pre (pcs := pcfgs (F := F)) (a := adm) (pdats := dats m) (ι := ()) (defs₀ := defs₀) (𝒱₀ := Variants.none) (L := L) (lv := lv)
    (p := 0) (D := fun _ => 0) (X := fun c => iprop(∃ r, prngReg c r)) (Y := fun c => iprop(∃ r, prngReg c r)) (R := fun _ => iprop(emp)) (W := atCall1 m) arr0_sub c
theorem call1_post (c : Dev nD) : (call1 m).post c ⊢ iprop(StableHlo.held (c : Thread nD τ) (Pipeline.ucRefs τ sig) (atCall2 m c) ∗ beside c) :=
  RegionSeg.ofHeldIn_post arr0_sub c
theorem call2_pre (c : Dev nD) : iprop(StableHlo.held (c : Thread nD τ) (Pipeline.ucRefs τ sig) (atCall2 m c) ∗ beside c) ⊢ (call2 m).pre c := by
  unfold call2
  exact RegionSeg.ofHeldIn_pre (pcs := pcfgs (F := F)) (a := adm) (pdats := dats m) (ι := ()) (defs₀ := defs₀) (𝒱₀ := Variants.none) (L := L) (lv := lv)
    (p := 1) (D := fun _ => 0) (X := fun c => iprop(∃ r, prngReg c r)) (Y := fun c => iprop(∃ r, prngReg c r)) (R := fun _ => iprop(emp)) (W := atCall2 m) arr1_sub c
theorem call2_post (c : Dev nD) : (call2 m).post c ⊢ iprop(StableHlo.held (c : Thread nD τ) (Pipeline.ucRefs τ sig) (atEnd m c) ∗ beside c) :=
  RegionSeg.ofHeldIn_post arr1_sub c
theorem beside_end (c : Dev nD) : beside (F := F) c ⊢ iprop(∃ W, owes (c : Thread nD τ) (0 : CellTallies nD τ sig Unit) W) := by
  unfold beside; iintro ⟨H, -⟩; iexact H

set_option backward.isDefEq.respectTransparency.types false in
/-- Every execution ends, with every unscoped buffer of a core at `atEnd` and every semaphore at zero. -/
theorem run (ρ : Dev nD → PrngReg) :
    θ_run defs (onTc (τ := τ) (main (F := F))) ⟨m, fun _ => 0, ρ⟩ (fun r =>
      (∀ c : Dev nD, ∀ b ∈ Pipeline.ucRefs τ sig, r.2.mem ((c : Thread nD τ).1, b) = atEnd m c b) ∧ r.2.sem = fun _ => 0) := by
  refine Pipeline.θ_run_regions_kit_dev_sems (pcfgs (F := F)) adm (dats m) () cellOf_inj emb₁ defs₀ Variants.none L lv m ρ main
    (segs m Variants.none L lv (fun _ => beside) () (dats m) (call1 m) (call2 m))
    (fun c Q => by
      rewrite [main_chain c, Seg.run_eq_chain]
      exact .rfl)
    (fun c => by simp only [segs, Seg.pipes_host, Seg.pipes_region, Seg.pipes_nil]; decide)
    (fun _ => 0) (fun g h => by unfold L; rw [if_neg h]) (fun _ => iprop(emp))
    (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ beside c))
    (Tₙ := fun c => StableHlo.held (c : Thread nD τ) (Pipeline.ucRefs τ sig) (atEnd m c))
    (hch := fun c => ⟨.rfl, call1_pre m c, (call1_post m c).trans (call2_pre m c), (call2_post m c).trans (sep_mono .rfl (beside_end c))⟩)
    (hinit := ?_) (QY := fun c s => ∀ b ∈ Pipeline.ucRefs τ sig, s.mem ((c : Thread nD τ).1, b) = atEnd m c b)
    (hfin := fun c s' => ?_) (hQ := fun _ h hz => ⟨h, funext fun g => hz g (.inr (regions_no_unscoped g.2))⟩)
  · refine Pipeline.initEach L lv fun c => ?_
    rw [show unscopedBufs c (fun b => m ((c.tc : Thread nD τ).loc b)) = StableHlo.held (c.tc : Thread nD τ) (Pipeline.ucRefs τ sig) (V0 m c)
        from Pipeline.unscopedBufs_held (Ix := Unit) (Name := ℕ) (U := UR sig nD τ) (Lvl := ℕ) c (V0 m c)]
    unfold beside
    iintro ⟨⟨Hh, -, HO, -, Hp, -⟩, -⟩
    imodintro
    isplitl [Hh]; · iexact Hh
    isplitl [HO]; · iexists _; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (atEnd m c) s') $$ [Hh HSI]
    · isplitl [Hh] <;> iassumption
    imodintro; iexact Hr

/-- A buffer no host operation writes and no call writes back is at the end as it was launched. -/
theorem atEnd_kept (c : Dev nD) (r : Ref sig .tc) (h0 : r ∉ hostOps0_W)
    (h1 : ∀ w, Pipeline.arrRef spec0 w = r → (cfg0.win w).isOut = false)
    (h2 : ∀ w, Pipeline.arrRef spec1 w = r → (cfg1.win w).isOut = false) :
    atEnd m c r = m ((c : Thread nD τ).loc r) :=
  (Pipeline.afterRegion_keeps (Layer2.dat c (atCall2 m c)) (atCall2 m c) winFacts1.arr_inj (fun _ => rfl) r h2).trans <|
    (Pipeline.afterRegion_keeps (Layer1.dat c (atCall1 m c)) (atCall1 m c) winFacts0.arr_inj (fun _ => rfl) r h1).trans <|
      (V1_of m c r h0).trans rfl

theorem unscoped_mem {r : Ref sig .tc} (h : r.isScoped = false) : (Proc.devRef .tc r : DevRef τ sig) ∈ Pipeline.ucRefs τ sig :=
  Pipeline.devRef_mem_ucRefs h

/-- A memory with every unscoped buffer at its last contents has every argument as it was launched. -/
theorem args_kept {mem : (ℓ : Loc nD τ sig) → Buf (Elt F) ℓ}
    (h : ∀ c : Dev nD, ∀ b ∈ Pipeline.ucRefs τ sig, mem ((c : Thread nD τ).1, b) = atEnd m c b) (c : Dev nD) :
      mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5) :=
  have keep (b : Ref sig .tc) (hs : b.isScoped = false) (h0 : b ∉ hostOps0_W)
      (h1 : ∀ w, Pipeline.arrRef spec0 w = b → (cfg0.win w).isOut = false)
      (h2 : ∀ w, Pipeline.arrRef spec1 w = b → (cfg1.win w).isOut = false) :
      mem ((c.tc : Thread nD τ).loc b) = m ((c.tc : Thread nD τ).loc b) :=
    (h c (Proc.devRef .tc b) (unscoped_mem hs)).trans (atEnd_kept m c b h0 h1 h2)
  ⟨keep main_arg0 (by decide) (by decide) (by decide) (by decide), keep main_arg1 (by decide) (by decide) (by decide) (by decide),
    keep main_arg2 (by decide) (by decide) (by decide) (by decide), keep main_arg3 (by decide) (by decide) (by decide) (by decide),
    keep main_arg4 (by decide) (by decide) (by decide) (by decide), keep main_arg5 (by decide) (by decide) (by decide) (by decide)⟩

/-- The program leaves its arguments as they were and every semaphore at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨args_kept m h.1, h.2⟩) (run m ρ)

end Cert.Proof.Whole

end
-- ==== Proof.AsPrinted.lean ====
/-
  The kernel as printed, read at the machine's own numbers.

  No operation of the kernel was replaced when it was idealized, so the two printed programs are the same text.  The run
  proved of that text (`Proof/Run.lean`) holds at every reading of its floats, the machine's among them: here it is said of
  the kernel's own names.
-/
module

public import proofs.«01_k».proof.Defs
public import proofs.«01_k».proof.Proof.Gen.Kernel
public import proofs.«01_k».proof.Proof.Run

@[expose] public section

noncomputable section

namespace Cert.Proof.AsPrinted

open Idealize.ShloMosaic Idealize.ShloMosaic.TcCoe Idealize.SL.Sem

/-- The frame of the kernel as printed is the frame of the idealized text at the machine's numbers. -/
theorem same_frame (h : Cert.Kernel.Facts) (h' : Cert.KernelIdeal.Facts) :
    (∀ (m : (ℓ : Loc Cert.Kernel.nD Cert.Kernel.τ Cert.Kernel.sig) → Buf (Elt Bits) ℓ) (ρ : Dev Cert.Kernel.nD → PrngReg),
      θ_run (Cert.Kernel.defs (F := Bits)) (onTc (τ := Cert.Kernel.τ) (Cert.Kernel.main (F := Bits))) ⟨m, fun _ => 0, ρ⟩
        (fun r => (∀ c : Dev Cert.Kernel.nD,
          r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5))
          ∧ r.2.sem = fun _ => 0))
    = (∀ (m : (ℓ : Loc Cert.KernelIdeal.nD Cert.KernelIdeal.τ Cert.KernelIdeal.sig) → Buf (Elt Bits) ℓ) (ρ : Dev Cert.KernelIdeal.nD → PrngReg),
      θ_run (Cert.KernelIdeal.defs (F := Bits)) (onTc (τ := Cert.KernelIdeal.τ) (Cert.KernelIdeal.main (F := Bits))) ⟨m, fun _ => 0, ρ⟩
        (fun r => (∀ c : Dev Cert.KernelIdeal.nD,
          r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
          ∧ r.2.sem = fun _ => 0)) := by
  sl_kernel_rfl

/-- The kernel as printed leaves its arguments as they were and every semaphore at zero. -/
theorem frame : Cert.quiescent_Kernel (hKernel := Cert.Kernel.Gen.facts) :=
  fun m ρ _ => (same_frame Cert.Kernel.Gen.facts Cert.KernelIdeal.Gen.facts).mpr (fun m ρ => Whole.frame m ρ) m ρ

end Cert.Proof.AsPrinted

end
-- ==== Proof.Numbers.lean ====
/-
  Facts about extended reals that name no program: the two powers of two the second layer scales by, the infinities the
  maxima start from, a sum cut into four pieces, and a row's logarithm of its exponentials.
-/
module

public import Idealize.ShloMosaic.PureOps.Ideal

@[expose] public section

noncomputable section

namespace Cert.Proof.Numbers

open Idealize.ShloMosaic
open scoped BigOperators

/-! ## Constants -/

/-- The word the first call multiplies the adjacency by is 2²¹. -/
theorem scale_up : Ideal.ofBits .f32 0x4A000000#32 = ((2097152 : ℝ) : EReal) := by
  simp [Ideal.ofBits, Ideal.ieee, -EReal.coe_mul]; norm_num

/-- The word the second call multiplies its sums by is 2⁻²¹. -/
theorem scale_down : Ideal.ofBits .f32 0x35000000#32 = ((2097152⁻¹ : ℝ) : EReal) := by
  simp [Ideal.ofBits, Ideal.ieee, -EReal.coe_mul]; norm_num

/-- The word a maximum starts from is minus infinity. -/
theorem least : Ideal.ofBits .f32 0xFF800000#32 = ⊥ := by
  simp [Ideal.ofBits, Ideal.ieee]

/-- The word an entry's magnitude is compared with is plus infinity. -/
theorem greatest : Ideal.ofBits .f32 0x7F800000#32 = ⊤ := by
  simp [Ideal.ofBits, Ideal.ieee]

/-! ## Sums -/

/-- A sum of `a + b + c + d` terms, cut in four. -/
theorem sum_four {M : Type*} [AddCommMonoid M] {n : ℕ} (a b c d : ℕ) (h : a + b + c + d = n) (f : Fin n → M) :
    (∑ k : Fin a, f ⟨k, by omega⟩) + (∑ k : Fin b, f ⟨a + k, by omega⟩) + (∑ k : Fin c, f ⟨a + b + k, by omega⟩)
      + (∑ k : Fin d, f ⟨a + b + c + k, by omega⟩) = ∑ k, f k := by
  subst h
  rw [Fin.sum_univ_add, Fin.sum_univ_add, Fin.sum_univ_add]
  rfl

/-- Multiplying by a real that is not negative distributes over any sum of extended reals. -/
theorem sum_mul {ι : Type*} (s : Finset ι) (f : ι → EReal) (r : ℝ) (hr : 0 ≤ r) :
    (∑ i ∈ s, f i) * (r : EReal) = ∑ i ∈ s, f i * r := by
  classical
  induction s using Finset.induction_on with
  | empty => simp
  | insert a s ha ih =>
    rw [Finset.sum_insert ha, Finset.sum_insert ha, ← ih, EReal.right_distrib_of_nonneg_of_ne_top]
    · exact_mod_cast hr
    · exact EReal.coe_ne_top r

/-- Scaling every left factor up by 2²¹ and the sum of products down by as much changes nothing, whatever the terms are. -/
theorem scaled_sum {ι : Type*} (s : Finset ι) (f g : ι → EReal) :
    (∑ i ∈ s, f i * ((2097152 : ℝ) : EReal) * g i) * ((2097152⁻¹ : ℝ) : EReal) = ∑ i ∈ s, f i * g i := by
  rw [sum_mul s _ _ (by norm_num)]
  refine Finset.sum_congr rfl fun i _ => ?_
  rw [mul_right_comm, mul_assoc (f i), ← EReal.coe_mul, show (2097152 : ℝ) * 2097152⁻¹ = 1 by norm_num, EReal.coe_one, mul_one]

/-- A sum of reals is real. -/
theorem real_sum {ι : Type*} (s : Finset ι) (f : ι → EReal) (h : ∀ i ∈ s, ∃ r : ℝ, f i = r) : ∃ r : ℝ, ∑ i ∈ s, f i = r := by
  classical
  induction s using Finset.induction_on with
  | empty => exact ⟨0, by simp⟩
  | insert a s ha ih =>
    obtain ⟨x, hx⟩ := h a (Finset.mem_insert_self a s)
    obtain ⟨y, hy⟩ := ih fun i hi => h i (Finset.mem_insert_of_mem hi)
    exact ⟨x + y, by rw [Finset.sum_insert ha, hx, hy, EReal.coe_add]⟩

theorem real_add {x y : EReal} (hx : ∃ r : ℝ, x = r) (hy : ∃ r : ℝ, y = r) : ∃ r : ℝ, x + y = r := by
  obtain ⟨a, rfl⟩ := hx; obtain ⟨b, rfl⟩ := hy; exact ⟨a + b, (EReal.coe_add a b).symm⟩

theorem real_mul {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩

theorem real_max {x y : EReal} (hx : ∃ r : ℝ, x = r) (hy : ∃ r : ℝ, y = r) : ∃ r : ℝ, max x y = r := by
  rcases max_choice x y with h | h <;> rw [h] <;> assumption

/-- The greatest of finitely many reals, one at least, is real. -/
theorem real_fold_max {ι : Type*} (s : Finset ι) (hs : s.Nonempty) (f : ι → EReal) (h : ∀ i ∈ s, ∃ r : ℝ, f i = r) :
    ∃ r : ℝ, s.fold max ⊥ f = r := by
  classical
  induction hs using Finset.Nonempty.cons_induction with
  | singleton a => simpa using h a (Finset.mem_singleton_self a)
  | cons a s ha hs ih =>
    rw [Finset.fold_cons]
    exact real_max (h a (Finset.mem_cons_self a s)) (ih fun i hi => h i (Finset.mem_cons_of_mem hi))

/-! ## Taking off a row's maximum and the logarithm -/

/-- Taking two amounts off one after the other, or their sum at once, is the same when the first is real. -/
theorem sub_sub_real (x l : EReal) (t : ℝ) : x - (l + (t : EReal)) = x - (t : EReal) - l := by
  induction l using EReal.rec with
  | bot =>
    rw [EReal.bot_add, sub_eq_add_neg, sub_eq_add_neg, sub_eq_add_neg, EReal.neg_bot]
    induction x using EReal.rec with
    | bot => simp
    | coe a => norm_cast
    | top => norm_cast
  | coe b =>
    induction x using EReal.rec with
    | bot => norm_cast
    | coe a => norm_cast; ring
    | top => norm_cast
  | top =>
    rw [EReal.top_add_coe, sub_eq_add_neg, sub_eq_add_neg, sub_eq_add_neg, EReal.neg_top, EReal.add_bot, EReal.add_bot]

end Cert.Proof.Numbers

end
-- ==== Proof.Finite.lean ====
/-
  The precondition, read back: every entry of every argument is a real number.
-/
module

public import proofs.«01_k».proof.Pre_finite
public import proofs.«01_k».proof.Proof.Numbers
public import Idealize.ShloMosaic.Lib.ReduceAll
public import Idealize.ShloMosaic.PureOps.Ideal

@[expose] public section

noncomputable section

namespace Cert.Proof.Finite

open Cert.Pre_finite
open Idealize.ShloMosaic

/-- The shape relations the precondition's operations take. -/
instance facts : Cert.Pre_finite.Facts where
  bcast_S_S10000x128 := by decide
  reducesTo_S10000x128_S_d0_1 := by decide
  h_S_ := by decide
  bcast_S_S10000x10000 := by decide
  reducesTo_S10000x10000_S_d0_1 := by decide
  bcast_S_S128x64 := by decide
  reducesTo_S128x64_S_d0_1 := by decide
  bcast_S_S64 := by decide
  reducesTo_S64_S_d0 := by decide
  bcast_S_S64x40 := by decide
  reducesTo_S64x40_S_d0_1 := by decide
  bcast_S_S40 := by decide
  reducesTo_S40_S_d0 := by decide

instance : Subsingleton S_.Idx := ⟨fun _ _ => funext fun a => a.elim0⟩

/-- An extended real whose magnitude is below plus infinity is real. -/
theorem real_of_abs_lt (x : EReal) (h : max x (-x) < ⊤) : ∃ r : ℝ, x = r := by
  induction x using EReal.rec with
  | bot => simp at h
  | coe r => exact ⟨r, rfl⟩
  | top => simp at h

/-- One argument's share of the precondition: if every magnitude compared as below plus infinity, every entry is real. -/
theorem real_of_all {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant S_ .f32 0x7F800000#32)))
      (constantI S_ 1 1#1) hr hu j = 1#1) (i : s.Idx) : ∃ r : ℝ, x i = r := by
  have hi := Host.reduce_andi_all _ _ hr hu j h i
  have hi : Ideal.cmp .olt (max (x i) (-(x i))) (Ideal.ofBits .f32 0x7F800000#32) = 1#1 := hi
  rw [Numbers.greatest] at hi
  refine real_of_abs_lt _ ?_
  by_contra hn
  simp [Ideal.cmp, hn] at hi

/-- The precondition says that every entry of every argument is real. -/
theorem reals (x : FVec Ideal S10000x128 .f32) (adj : FVec Ideal S10000x10000 .f32) (w : FVec Ideal S128x64 .f32) (b : FVec Ideal S64 .f32)
    (w' : FVec Ideal S64x40 .f32) (b' : FVec Ideal S40 .f32) (h : fn x adj w b w' b' = fun _ => 1#1) :
    (∀ i, ∃ r : ℝ, x i = r) ∧ (∀ i, ∃ r : ℝ, adj i = r) ∧ (∀ i, ∃ r : ℝ, w i = r) ∧ (∀ i, ∃ r : ℝ, b i = r)
      ∧ (∀ i, ∃ r : ℝ, w' i = r) ∧ (∀ i, ∃ r : ℝ, b' i = r) := by
  have h := congrFun h (fun a => a.elim0 : S_.Idx)
  unfold fn fn_part1 at h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of_all x _ _ _ _ h0, real_of_all adj _ _ _ _ h1, real_of_all w _ _ _ _ h2, real_of_all b _ _ _ _ h3,
    real_of_all w' _ _ _ _ h4, real_of_all b' _ _ _ _ h5⟩

end Cert.Proof.Finite

end
-- ==== Proof.Network.lean ====
/-
  The mathematics both programs compute, on whole arrays of extended reals.

  A graph convolution of two layers: the features times the first weights, gathered along the graph, a bias added and negative
  entries cut off, times the second weights, gathered along the graph again, a second bias added, and then each row less its
  maximum and less the logarithm of its exponentials' sum.  The last step is written twice, as each program orders it.
-/
module

public import Idealize.ShloMosaic.PureOps.Ideal
public import Idealize.ShloMosaic.Lib.Pointwise
public import proofs.«01_k».proof.Proof.Numbers

@[expose] public section

noncomputable section

namespace Cert.Proof.Network

open Idealize.ShloMosaic
open scoped BigOperators

/-- An array of extended reals with `m` rows and `n` columns. -/
abbrev Table (m n : ℕ) : Type := (⟨2, ![m, n]⟩ : Shape).Idx → EReal
/-- A list of `n` extended reals. -/
abbrev List' (n : ℕ) : Type := (⟨1, ![n]⟩ : Shape).Idx → EReal

/-- The features times the first weights. -/
def projected (x : Table 10000 128) (w : Table 128 64) (k : Fin 10000) (h : Fin 64) : EReal :=
  ∑ f : Fin 128, x (ix2 k f) * w (ix2 f h)

/-- The first layer's output: gathered along the graph, biased, negative entries cut off. -/
def hidden (x : Table 10000 128) (adj : Table 10000 10000) (w : Table 128 64) (b : List' 64) (r : Fin 10000) (h : Fin 64) : EReal :=
  max (∑ k : Fin 10000, adj (ix2 r k) * projected x w k h + b (ix1 h)) 0

/-- The first layer's output times the second weights. -/
def classes (x : Table 10000 128) (adj : Table 10000 10000) (w : Table 128 64) (b : List' 64) (w' : Table 64 40)
    (r : Fin 10000) (j : Fin 40) : EReal :=
  ∑ h : Fin 64, hidden x adj w b r h * w' (ix2 h j)

/-- The second layer's output: gathered along the graph and biased. -/
def logit (x : Table 10000 128) (adj : Table 10000 10000) (w : Table 128 64) (b : List' 64) (w' : Table 64 40) (b' : List' 40)
    (r : Fin 10000) (j : Fin 40) : EReal :=
  ∑ k : Fin 10000, adj (ix2 r k) * classes x adj w b w' k j + b' (ix1 j)

/-- A row's greatest entry. -/
def top (o : Fin 40 → EReal) : EReal := Finset.univ.fold max ⊥ o

/-- The logarithm of the sum of a row's exponentials, its greatest entry taken off first. -/
def logSum (o : Fin 40 → EReal) : EReal := Ideal.log (∑ j : Fin 40, Ideal.exp (o j - top o))

/-- A row's logarithms of shares, both amounts taken off at once. -/
def atOnce (o : Fin 40 → EReal) (j : Fin 40) : EReal := o j - (logSum o + top o)

/-- A row's logarithms of shares, the greatest entry taken off first and the logarithm after it. -/
def inTurn (o : Fin 40 → EReal) (j : Fin 40) : EReal := o j - top o - logSum o

/-- The two orders agree on a row of reals. -/
theorem atOnce_eq_inTurn (o : Fin 40 → EReal) (h : ∀ j, ∃ r : ℝ, o j = r) (j : Fin 40) : atOnce o j = inTurn o j := by
  obtain ⟨t, ht⟩ := Numbers.real_fold_max Finset.univ Finset.univ_nonempty o fun i _ => h i
  have ht : top o = t := ht
  unfold atOnce inTurn
  rw [ht]
  exact Numbers.sub_sub_real _ _ t

/-- They don't on a row of plus infinities: taken off at once the amounts leave plus infinity, in turn minus infinity. -/
theorem atOnce_ne_inTurn (j : Fin 40) : atOnce (fun _ => ⊤) j ≠ inTurn (fun _ => ⊤) j := by
  have ht : top (fun _ => ⊤) = ⊤ := by
    refine top_unique ?_
    unfold top
    rw [Finset.le_fold_max]
    exact .inr ⟨j, Finset.mem_univ j, le_refl _⟩
  have hl : logSum (fun _ => ⊤) = ⊥ := by
    unfold logSum
    rw [ht]
    change Ideal.log (∑ _j : Fin 40, Ideal.exp (⊤ - ⊤)) = ⊥
    rw [sub_eq_add_neg, EReal.neg_top, EReal.add_bot, Ideal.exp_bot, Finset.sum_const_zero, ← EReal.coe_zero, Ideal.log_coe,
      if_pos (le_refl _)]
  unfold atOnce inTurn
  rw [ht, hl]
  simp [sub_eq_add_neg]

/-- Real arguments give real outputs of the second layer. -/
theorem logit_real (x : Table 10000 128) (adj : Table 10000 10000) (w : Table 128 64) (b : List' 64) (w' : Table 64 40) (b' : List' 40)
    (hx : ∀ i, ∃ r : ℝ, x i = r) (hadj : ∀ i, ∃ r : ℝ, adj i = r) (hw : ∀ i, ∃ r : ℝ, w i = r) (hb : ∀ i, ∃ r : ℝ, b i = r)
    (hw' : ∀ i, ∃ r : ℝ, w' i = r) (hb' : ∀ i, ∃ r : ℝ, b' i = r) (r : Fin 10000) (j : Fin 40) :
    ∃ v : ℝ, logit x adj w b w' b' r j = v := by
  have hp (k : Fin 10000) (h : Fin 64) : ∃ v : ℝ, projected x w k h = v :=
    Numbers.real_sum _ _ fun f _ => Numbers.real_mul (hx _) (hw _)
  have hh (k : Fin 10000) (h : Fin 64) : ∃ v : ℝ, hidden x adj w b k h = v :=
    Numbers.real_max (Numbers.real_add (Numbers.real_sum _ _ fun l _ => Numbers.real_mul (hadj _) (hp l h)) (hb _)) ⟨0, rfl⟩
  have hc (k : Fin 10000) : ∃ v : ℝ, classes x adj w b w' k j = v :=
    Numbers.real_sum _ _ fun h _ => Numbers.real_mul (hh k h) (hw' _)
  exact Numbers.real_add (Numbers.real_sum _ _ fun k _ => Numbers.real_mul (hadj _) (hc k)) (hb' _)

end Cert.Proof.Network

end
-- ==== Proof.Payloads.lean ====
/-
  What one block computes, entry by entry, over the extended reals: the payloads of the two kernels' stores read at a row and a
  column.
-/
module

public import proofs.«01_k».proof.Proof.Layer2Body
public import proofs.«01_k».proof.Proof.Network
public import Idealize.ShloMosaic.Lib.Pointwise
public import Idealize.ShloMosaic.PureOps.Ideal

@[expose] public section

set_option maxRecDepth 16384

noncomputable section

namespace Cert.Proof.Payloads

open Cert.KernelIdeal Cert.KernelIdeal.Gen
open Idealize.ShloMosaic
open scoped BigOperators

/-- The first call's scratch: the features times the first weights. -/
theorem projected (x : Vec Ideal S10000x128 .f32) (w : Vec Ideal S128x64 .f32) (k : Fin 10000) (h : Fin 64) :
    k0_pay1 x w (ix2 k h) = Network.projected x w k h := by
  pointwise [k0_pay1, Network.projected]

/-- A block of the first call's first result. -/
theorem classes (a : Vec Ideal S200x10000 .f32) (s : Vec Ideal S10000x64 .f32) (b : Vec Ideal S1x64 .f32) (w : Vec Ideal S64x40 .f32)
    (r : Fin 200) (j : Fin 40) :
    k0_pay2 a s b w (ix2 r j)
      = ∑ h : Fin 64, max (∑ k : Fin 10000, a (ix2 r k) * s (ix2 k h) + b (ix2 0 h)) 0 * w (ix2 h j) := by
  pointwise [k0_pay2]

/-- A block of the first call's second result: the adjacency scaled up. -/
theorem scaled (a : Vec Ideal S200x10000 .f32) (r : Fin 200) (k : Fin 10000) :
    k0_pay3 a (ix2 r k) = a (ix2 r k) * ((2097152 : ℝ) : EReal) := by
  pointwise [k0_pay3]
  rw [Numbers.scale_up]

/-- The second call's scratch is what it was copied from. -/
theorem copied (t : Vec Ideal S10000x40 .f32) (k : Fin 10000) (j : Fin 40) : k1_pay2 t (ix2 k j) = t (ix2 k j) := by
  pointwise [k1_pay2]

/-- The four partial products of the second call, summed and scaled down, are one product over the whole of the graph. -/
theorem gathered (q : Vec Ideal S1000x10000 .fp8e4m3) (s : Vec Ideal S10000x40 .bf16) (r : Fin 1000) (j : Fin 40) :
    Layer2.pieces q s (ix2 r j) = (∑ k : Fin 10000, q (ix2 r k) * s (ix2 k j)) * ((2097152⁻¹ : ℝ) : EReal) := by
  pointwise [Layer2.pieces, k1_pay3]
  rw [Numbers.scale_down, ← Numbers.sum_four 2560 2560 2560 2320 rfl (fun k : Fin 10000 => q (ix2 r k) * s (ix2 k j))]

/-- A block of the second call's result, from its sums and its bias. -/
theorem shares (a : FVec Ideal S1000x40 .f32) (b : Vec Ideal S1x40 .f32) (r : Fin 1000) (j : Fin 40) :
    k1_pay1 a (k1_pay4 b) (ix2 r j) = Network.atOnce (fun l => a (ix2 r l) + b (ix2 0 l)) j := by
  pointwise [k1_pay1, k1_pay4]
  rw [Numbers.least]
  rfl

end Cert.Proof.Payloads

end
-- ==== Proof.Layer1Value.lean ====
/-
  What the first call leaves in its two result arrays, over the extended reals: the first layer's output times the second
  weights, and the adjacency scaled up by 2²¹.

  Point `t` of the 50 works on rows `200 t` to `200 t + 199` of the adjacency and of both results, and on the whole of every
  other array; the 50 blocks of rows cover a result.
-/
module

public import proofs.«01_k».proof.Proof.Layer1Data
public import proofs.«01_k».proof.Proof.Payloads
public import Idealize.ShloMosaic.Lib.Pipeline.ValueKit

@[expose] public section

set_option maxRecDepth 16384

noncomputable section

namespace Cert.Proof.Layer1

open Cert.KernelIdeal Cert.KernelIdeal.Gen
open Idealize.ShloMosaic Idealize.ShloMosaic.TcCoe
open Idealize.ShloMosaic.Pipeline (Dat)
open scoped BigOperators

variable (c : Dev nD) (V : Valuation τ sig (Elt Ideal))

/-! ## Where a block lies -/

theorem index_0 : ∀ t : Fin cfg0.N, win0_0.index t = ![0, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![t.val, 0] := (by decide +kernel : ∀ t : Fin grid0.N, _)
theorem index_6 : ∀ t : Fin cfg0.N, win0_6.index t = ![t.val, 0] := (by decide +kernel : ∀ t : Fin grid0.N, _)

/-- Row `r` of point `t`'s block is this row of the whole. -/
def row (t : Fin cfg0.N) (r : Fin 200) : Fin 10000 :=
  ⟨t.val * 200 + r.val, by have := t.isLt.trans_eq (show cfg0.N = 50 from N_0); omega⟩

theorem block_0 (t : Fin cfg0.N) (k : Fin 10000) (f : Fin 128) : block V 0 t (ix2 k f) = V main_arg0 (ix2 k f) := by
  blk_simp [block]
  congr 1; blk_ext [index_0]
theorem block_1 (t : Fin cfg0.N) (r : Fin 200) (k : Fin 10000) : block V 1 t (ix2 r k) = V main_arg1 (ix2 (row t r) k) := by
  blk_simp [block]
  congr 1; blk_ext [index_1, row]
theorem block_2 (t : Fin cfg0.N) (f : Fin 128) (h : Fin 64) : block V 2 t (ix2 f h) = V main_arg2 (ix2 f h) := by
  blk_simp [block]
  congr 1; blk_ext [index_2]
theorem block_3 (t : Fin cfg0.N) (h : Fin 64) : block V 3 t (ix2 0 h) = V main_call0_v0 (ix2 0 h) := by
  blk_simp [block]
  congr 1; blk_ext [index_3]
theorem block_4 (t : Fin cfg0.N) (h : Fin 64) (j : Fin 40) : block V 4 t (ix2 h j) = V main_arg4 (ix2 h j) := by
  blk_simp [block]
  congr 1; blk_ext [index_4]

/-! ## What a point leaves -/

theorem scratch_at (k : Fin 10000) (h : Fin 64) : scratch V (ix2 k h) = Network.projected (V main_arg0) (V main_arg2) k h := by
  unfold scratch
  rw [Payloads.projected]
  unfold Network.projected
  exact Finset.sum_congr rfl fun f _ => by rw [block_0, block_2]

/-- The first layer's output times the second weights, the bias a row of its own. -/
def classesOf (x : Network.Table 10000 128) (adj : Network.Table 10000 10000) (w : Network.Table 128 64) (b : Network.Table 1 64)
    (w' : Network.Table 64 40) : Network.Table 10000 40 := fun i =>
  ∑ h : Fin 64, max (∑ k : Fin 10000, adj (ix2 (i 0) k) * Network.projected x w k h + b (ix2 0 h)) 0 * w' (ix2 h (i 1))

/-- An array with every entry scaled up by 2²¹. -/
def scaledOf (adj : Network.Table 10000 10000) : Network.Table 10000 10000 := fun i => adj i * ((2097152 : ℝ) : EReal)

theorem after_5_at (t : Fin cfg0.N) (r : Fin 200) (j : Fin 40) : (dat c V).after 5 t (ix2 r j)
    = classesOf (V main_arg0) (V main_arg1) (V main_arg2) (V main_call0_v0) (V main_arg4) (ix2 (row t r) j) := by
  rw [after_5]
  refine (Payloads.classes _ _ _ _ r j).trans ?_
  unfold classesOf
  refine Finset.sum_congr rfl fun h _ => ?_
  rw [block_3, block_4]
  congr 3
  exact Finset.sum_congr rfl fun k _ => by rw [block_1, scratch_at]; rfl

theorem after_6_at (t : Fin cfg0.N) (r : Fin 200) (k : Fin 10000) : (dat c V).after 6 t (ix2 r k)
    = scaledOf (V main_arg1) (ix2 (row t r) k) := by
  rw [after_6]
  refine (Payloads.scaled _ r k).trans ?_
  rw [block_1]; rfl

/-! ## The two arrays -/

theorem array_5 : (dat c V).arrAt 5 cfg0.N
    = classesOf (V main_arg0) (V main_arg1) (V main_arg2) (V main_call0_v0) (V main_arg4) := by
  refine (dat c V).arrAt_eq_of_covers 5 _ (by decide +kernel) fun t hf y => ?_
  blk_simp
  rw [eq_ix2 (n0 := 200) (n1 := 40) y]
  refine (after_5_at c V t _ _).trans ?_
  congr 1; blk_ext [index_5, row]

theorem array_6 : (dat c V).arrAt 6 cfg0.N = scaledOf (V main_arg1) := by
  refine (dat c V).arrAt_eq_of_covers 6 _ (by decide +kernel) fun t hf y => ?_
  blk_simp
  rw [eq_ix2 (n0 := 200) (n1 := 10000) y]
  refine (after_6_at c V t _ _).trans ?_
  congr 1; blk_ext [index_6, row]

end Cert.Proof.Layer1

end
-- ==== Proof.Layer2Value.lean ====
/-
  What the second call leaves in its result array, over the extended reals: each row's logarithms of shares, the row being the
  scaled adjacency's row times the first call's result, scaled down again and biased.

  Point `t` of the ten works on rows `1000 t` to `1000 t + 999` of the scaled adjacency and of the result, and on the whole of
  every other array; the ten blocks of rows cover the result.
-/
module

public import proofs.«01_k».proof.Proof.Layer2Data
public import proofs.«01_k».proof.Proof.Payloads
public import Idealize.ShloMosaic.Lib.Pipeline.ValueKit

@[expose] public section

set_option maxRecDepth 16384

noncomputable section

namespace Cert.Proof.Layer2

open Cert.KernelIdeal Cert.KernelIdeal.Gen
open Idealize.ShloMosaic Idealize.ShloMosaic.TcCoe
open Idealize.ShloMosaic.Pipeline (Dat)
open scoped BigOperators

variable (c : Dev nD) (V : Valuation τ sig (Elt Ideal))

/-! ## Where a block lies -/

theorem index_0 : ∀ t : Fin cfg1.N, win1_0.index t = ![t.val, 0] := (by decide +kernel : ∀ t : Fin grid1.N, _)
theorem index_1 : ∀ t : Fin cfg1.N, win1_1.index t = ![0, 0] := (by decide +kernel : ∀ t : Fin grid1.N, _)
theorem index_2 : ∀ t : Fin cfg1.N, win1_2.index t = ![0, 0] := (by decide +kernel : ∀ t : Fin grid1.N, _)
theorem index_3 : ∀ t : Fin cfg1.N, win1_3.index t = ![t.val, 0] := (by decide +kernel : ∀ t : Fin grid1.N, _)

/-- Row `r` of point `t`'s block is this row of the whole. -/
def row (t : Fin cfg1.N) (r : Fin 1000) : Fin 10000 :=
  ⟨t.val * 1000 + r.val, by have := t.isLt.trans_eq (show cfg1.N = 10 from N_1); omega⟩

theorem block_0 (t : Fin cfg1.N) (r : Fin 1000) (k : Fin 10000) : block V 0 t (ix2 r k) = V main_call0_v2_1 (ix2 (row t r) k) := by
  blk_simp [block]
  congr 1; blk_ext [index_0, row]
theorem block_1 (t : Fin cfg1.N) (k : Fin 10000) (j : Fin 40) : block V 1 t (ix2 k j) = V main_call0_v2_0 (ix2 k j) := by
  blk_simp [block]
  congr 1; blk_ext [index_1]
theorem block_2 (t : Fin cfg1.N) (j : Fin 40) : block V 2 t (ix2 0 j) = V main_call0_v1 (ix2 0 j) := by
  blk_simp [block]
  congr 1; blk_ext [index_2]

/-! ## What a point leaves -/

theorem scratch_at (k : Fin 10000) (j : Fin 40) : scratch V (ix2 k j) = V main_call0_v2_0 (ix2 k j) := by
  unfold scratch
  exact (Payloads.copied _ k j).trans (block_1 V t₀ k j)

/-- A row of the second layer's output, from the scaled adjacency, the first call's result and the bias as a row of its own. -/
def logitsOf (q : Network.Table 10000 10000) (s : Network.Table 10000 40) (b : Network.Table 1 40) (r : Fin 10000) (j : Fin 40) : EReal :=
  (∑ k : Fin 10000, q (ix2 r k) * s (ix2 k j)) * ((2097152⁻¹ : ℝ) : EReal) + b (ix2 0 j)

/-- The logarithms of shares of every such row. -/
def sharesOf (q : Network.Table 10000 10000) (s : Network.Table 10000 40) (b : Network.Table 1 40) : Network.Table 10000 40 :=
  fun i => Network.atOnce (logitsOf q s b (i 0)) (i 1)

theorem after_3_at (t : Fin cfg1.N) (r : Fin 1000) (j : Fin 40) : (dat c V).after 3 t (ix2 r j)
    = sharesOf (V main_call0_v2_1) (V main_call0_v2_0) (V main_call0_v1) (ix2 (row t r) j) := by
  rw [after_3]
  refine (Payloads.shares _ _ r j).trans ?_
  refine congrArg (fun o => Network.atOnce o j) (funext fun l => ?_)
  rw [Payloads.gathered, block_2]
  unfold logitsOf
  congr 2
  exact Finset.sum_congr rfl fun k _ => by rw [block_0, scratch_at]; rfl

/-! ## The array -/

theorem array_3 : (dat c V).arrAt 3 cfg1.N = sharesOf (V main_call0_v2_1) (V main_call0_v2_0) (V main_call0_v1) := by
  refine (dat c V).arrAt_eq_of_covers 3 _ (by decide +kernel) fun t hf y => ?_
  blk_simp
  rw [eq_ix2 (n0 := 1000) (n1 := 40) y]
  refine (after_3_at c V t _ _).trans ?_
  congr 1; blk_ext [index_3, row]

end Cert.Proof.Layer2

end
-- ==== Proof.KernelValue.lean ====
/-
  What the whole program leaves in its result, over the extended reals, from the arguments it was launched with.
-/
module

public import proofs.«01_k».proof.Proof.Run
public import proofs.«01_k».proof.Proof.Layer1Value
public import proofs.«01_k».proof.Proof.Layer2Value

@[expose] public section

set_option maxRecDepth 16384

noncomputable section

namespace Cert.Proof.Whole

open Cert.KernelIdeal Cert.KernelIdeal.Gen
open Idealize.ShloMosaic Idealize.ShloMosaic.TcCoe Idealize.ShloMosaic.StableHlo
open scoped BigOperators

variable (m : (ℓ : Loc nD τ sig) → Buf (Elt Ideal) ℓ) (c : Dev nD)

/-! ## When the first call starts -/

theorem arg_at_call1 (r : Ref sig .tc) (h : r ∉ hostOps0_W) : atCall1 m c r = m (c.tc.loc r) := (V1_of m c r h).trans rfl

/-- The host has made each bias a row of its own. -/
theorem bias1_at_call1 (h : Fin 64) : atCall1 m c main_call0_v0 (ix2 0 h) = m (c.tc.loc main_arg3) (ix1 h) := by
  have e : atCall1 m c main_call0_v0 = shapeCast S1x64 (m (c.tc.loc main_arg3)) shapeCasts_S64_S1x64 := by
    unfold atCall1 V1
    simp only [hostOps0, TRef.reshape, TRef.toBuf, TRef.ofBuf, cast_eq]
    after_results
    all_goals rfl
  rw [e]
  pointwise []

theorem bias2_at_call1 (j : Fin 40) : atCall1 m c main_call0_v1 (ix2 0 j) = m (c.tc.loc main_arg5) (ix1 j) := by
  have e : atCall1 m c main_call0_v1 = shapeCast S1x40 (m (c.tc.loc main_arg5)) shapeCasts_S40_S1x40 := by
    unfold atCall1 V1
    simp only [hostOps0, TRef.reshape, TRef.toBuf, TRef.ofBuf, cast_eq]
    after_results
    all_goals rfl
  rw [e]
  pointwise []

/-! ## When the second call starts -/

theorem classes_at_call2 (r : Fin 10000) (j : Fin 40) : atCall2 m c main_call0_v2_0 (ix2 r j)
    = Network.classes (m (c.tc.loc main_arg0)) (m (c.tc.loc main_arg1)) (m (c.tc.loc main_arg2)) (m (c.tc.loc main_arg3))
        (m (c.tc.loc main_arg4)) r j := by
  have e : atCall2 m c main_call0_v2_0 = _ :=
    (Pipeline.afterRegion_arr (Layer1.dat c (atCall1 m c)) (atCall1 m c) winFacts0.arr_inj 5).trans (Layer1.array_5 c (atCall1 m c))
  rw [e, arg_at_call1 m c main_arg0 (by decide), arg_at_call1 m c main_arg1 (by decide), arg_at_call1 m c main_arg2 (by decide),
    arg_at_call1 m c main_arg4 (by decide)]
  unfold Layer1.classesOf Network.classes Network.hidden
  exact Finset.sum_congr (M := EReal) rfl fun h _ => by rw [bias1_at_call1]; rfl

theorem scaled_at_call2 (r k : Fin 10000) : atCall2 m c main_call0_v2_1 (ix2 r k)
    = Layer1.scaledOf (m (c.tc.loc main_arg1)) (ix2 r k) := by
  have e : atCall2 m c main_call0_v2_1 = _ :=
    (Pipeline.afterRegion_arr (Layer1.dat c (atCall1 m c)) (atCall1 m c) winFacts0.arr_inj 6).trans (Layer1.array_6 c (atCall1 m c))
  rw [e, arg_at_call1 m c main_arg1 (by decide)]

theorem bias2_at_call2 (j : Fin 40) : atCall2 m c main_call0_v1 (ix2 0 j) = m (c.tc.loc main_arg5) (ix1 j) := by
  have e : atCall2 m c main_call0_v1 = atCall1 m c main_call0_v1 :=
    Pipeline.afterRegion_keeps (Layer1.dat c (atCall1 m c)) (atCall1 m c) winFacts0.arr_inj (fun _ => rfl) main_call0_v1 (by decide)
  rw [e, bias2_at_call1]

/-! ## At the end -/

/-- Scaled up by the first call and down by the second, a row of the second layer's output is what it is unscaled. -/
theorem logits_at_call2 (r : Fin 10000) (j : Fin 40) :
    Layer2.logitsOf (atCall2 m c main_call0_v2_1) (atCall2 m c main_call0_v2_0) (atCall2 m c main_call0_v1) r j
      = Network.logit (m (c.tc.loc main_arg0)) (m (c.tc.loc main_arg1)) (m (c.tc.loc main_arg2)) (m (c.tc.loc main_arg3))
          (m (c.tc.loc main_arg4)) (m (c.tc.loc main_arg5)) r j := by
  unfold Layer2.logitsOf Network.logit
  rw [bias2_at_call2]
  refine congrArg (· + _) ((congrArg (· * _) (Finset.sum_congr rfl fun k _ => ?_)).trans (Numbers.scaled_sum _ _ _))
  rw [scaled_at_call2, classes_at_call2]
  rfl

/-- The result: the logarithms of shares of the second layer's rows, both amounts taken off at once. -/
theorem result_at_end (r : Fin 10000) (j : Fin 40) : atEnd m c main_v0 (ix2 r j)
    = Network.atOnce (Network.logit (m (c.tc.loc main_arg0)) (m (c.tc.loc main_arg1)) (m (c.tc.loc main_arg2)) (m (c.tc.loc main_arg3))
        (m (c.tc.loc main_arg4)) (m (c.tc.loc main_arg5)) r) j := by
  have e : atEnd m c main_v0 = _ :=
    (Pipeline.afterRegion_arr (Layer2.dat c (atCall2 m c)) (atCall2 m c) winFacts1.arr_inj 3).trans (Layer2.array_3 c (atCall2 m c))
  rw [e]
  exact congrArg (fun o => Network.atOnce o j) (funext fun l => logits_at_call2 m c r l)

end Cert.Proof.Whole

end
-- ==== Proof.Reference.lean ====
/-
  What the reference computes, entry by entry, over the extended reals.
-/
module

public import proofs.«01_k».proof.Proof.Gen.ReferenceIdeal.Run
public import proofs.«01_k».proof.Proof.Network
public import Idealize.ShloMosaic.Lib.Pointwise
public import Idealize.ShloMosaic.PureOps.Ideal

@[expose] public section

set_option maxRecDepth 16384

noncomputable section

namespace Cert.Proof.Reference

open Cert.ReferenceIdeal
open Idealize.ShloMosaic Idealize.ShloMosaic.TcCoe
open scoped BigOperators

/-- The reference's result: every row of the second layer's output less its maximum and then less the logarithm. -/
theorem result (m : (ℓ : Loc nD τ sig) → Buf (Elt Ideal) ℓ) (c : Dev nD) (r : Fin 10000) (j : Fin 40) :
    Value.res_main_v12 m c (ix2 r j)
      = Network.inTurn (Network.logit (m (c.tc.loc main_arg0)) (m (c.tc.loc main_arg1)) (m (c.tc.loc main_arg2)) (m (c.tc.loc main_arg3))
          (m (c.tc.loc main_arg4)) (m (c.tc.loc main_arg5)) r) j := by
  pointwise [Value.res_main_v12]
  rw [Numbers.least]
  simp only [max_eq_right (bot_le (α := EReal))]
  rfl

end Cert.Proof.Reference

end
-- ==== Proof.Equation.lean ====
/-
  The equation: on arguments whose every entry is finite, the kernel's result and the reference's are one array.
-/
module

public import proofs.«01_k».proof.Defs
public import proofs.«01_k».proof.Proof.Finite
public import proofs.«01_k».proof.Proof.KernelValue
public import proofs.«01_k».proof.Proof.Reference

@[expose] public section

noncomputable section

namespace Cert.Proof.Equation

open Idealize.ShloMosaic Idealize.ShloMosaic.TcCoe

/-! The two programs' launch memories, and a core of each. -/

variable (m : (ℓ : Loc KernelIdeal.nD KernelIdeal.τ KernelIdeal.sig) → Buf (Elt Ideal) ℓ)
variable (m' : (ℓ : Loc ReferenceIdeal.nD ReferenceIdeal.τ ReferenceIdeal.sig) → Buf (Elt Ideal) ℓ)
variable (c : Dev KernelIdeal.nD)

/-- Finite arguments give a finite second layer. -/
theorem logit_finite (h : Cert.Pre_KernelIdeal_finite (hPre_finite := Finite.facts) m) (r : Fin 10000) (j : Fin 40) :
    ∃ v : ℝ, Network.logit (m (c.tc.loc KernelIdeal.main_arg0)) (m (c.tc.loc KernelIdeal.main_arg1)) (m (c.tc.loc KernelIdeal.main_arg2))
      (m (c.tc.loc KernelIdeal.main_arg3)) (m (c.tc.loc KernelIdeal.main_arg4)) (m (c.tc.loc KernelIdeal.main_arg5)) r j = v := by
  obtain ⟨hx, hadj, hw, hb, hw', hb'⟩ := Finite.reals _ _ _ _ _ _ (h c)
  exact Network.logit_real _ _ _ _ _ _ hx hadj hw hb hw' hb' r j

/-- From the same finite arguments, the kernel ends with the reference's result. -/
theorem same_result (h : Cert.Pre_KernelIdeal_finite (hPre_finite := Finite.facts) m)
    (h0 : m' (c.tc.loc ReferenceIdeal.main_arg0) = m (c.tc.loc KernelIdeal.main_arg0))
    (h1 : m' (c.tc.loc ReferenceIdeal.main_arg1) = m (c.tc.loc KernelIdeal.main_arg1))
    (h2 : m' (c.tc.loc ReferenceIdeal.main_arg2) = m (c.tc.loc KernelIdeal.main_arg2))
    (h3 : m' (c.tc.loc ReferenceIdeal.main_arg3) = m (c.tc.loc KernelIdeal.main_arg3))
    (h4 : m' (c.tc.loc ReferenceIdeal.main_arg4) = m (c.tc.loc KernelIdeal.main_arg4))
    (h5 : m' (c.tc.loc ReferenceIdeal.main_arg5) = m (c.tc.loc KernelIdeal.main_arg5)) :
    ReferenceIdeal.Value.res_main_v12 m' c = Whole.atEnd m c KernelIdeal.main_v0 := by
  refine funext fun i => ?_
  rw [eq_ix2 (n0 := 10000) (n1 := 40) i]
  refine (Reference.result m' c (i 0) (i 1)).trans ?_
  rw [h0, h1, h2, h3, h4, h5]
  refine Eq.trans ?_ (Whole.result_at_end m c (i 0) (i 1)).symm
  exact (Network.atOnce_eq_inTurn _ (fun j => logit_finite m c h _ j) _).symm

end Cert.Proof.Equation

end
-- ==== Proof.lean ====
/-
  The claims of this certificate, put together from the modules under `Proof/`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.AsPrinted
public import proofs.«01_k».proof.Proof.Equation

@[expose] public section

noncomputable section

namespace Cert.Proof

open Idealize.ShloMosaic Idealize.ShloMosaic.TcCoe Idealize.SL.Sem

/-- The kernel read at the extended reals leaves its arguments as they were and every semaphore at zero, -/
theorem frame_ideal : Cert.quiescent_KernelIdeal (hKernelIdeal := Cert.KernelIdeal.Gen.facts) := fun m ρ _ => Whole.frame m ρ

/-- on finite arguments in particular. -/
theorem frame_ideal_finite :
    Cert.quiescent_KernelIdeal_pre_finite (hKernelIdeal := Cert.KernelIdeal.Gen.facts) (hPre_finite := Finite.facts) :=
  fun m ρ _ => Whole.frame m ρ

/-- The reference leaves its arguments as they were; it has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems rfl r.2⟩)
    (Cert.ReferenceIdeal.Value.run m ρ)

theorem frame_reference_finite :
    Cert.quiescent_ReferenceIdeal_pre_finite (hReferenceIdeal := Cert.ReferenceIdeal.Gen.facts) (hPre_finite := Finite.facts) :=
  fun m ρ _ => frame_reference m ρ trivial

/-- The kernel and the reference, from the same finite arguments, end with the same result. -/
theorem algebraic : Cert.algebraic_KernelIdeal_ReferenceIdeal_pre_finite (hKernelIdeal := Cert.KernelIdeal.Gen.facts)
    (hReferenceIdeal := Cert.ReferenceIdeal.Gen.facts) (hPre_finite := Finite.facts) := fun m ρ m' ρ' hfin hargs =>
  ⟨fun c => Whole.atEnd m c Cert.KernelIdeal.main_v0,
    (θ_run Cert.KernelIdeal.defs _ _).mono (fun r h c => ⟨h.1 c _ (Whole.unscoped_mem rfl), Whole.args_kept m h.1 c⟩) (Whole.run m ρ),
    (θ_run Cert.ReferenceIdeal.defs _ _).mono (fun r h c =>
      have ⟨h0, h1, h2, h3, h4, h5⟩ := hargs c
      ⟨(h c).1.trans (Equation.same_result m m' c hfin h0 h1 h2 h3 h4 h5), (h c).2⟩) (Cert.ReferenceIdeal.Value.run m' ρ')⟩

theorem claim : Cert.Claim := ⟨Cert.Kernel.Gen.facts, Cert.KernelIdeal.Gen.facts, Cert.ReferenceIdeal.Gen.facts, Finite.facts,
  AsPrinted.frame, frame_ideal, frame_ideal_finite, frame_reference, frame_reference_finite, trivial, algebraic⟩

end Cert.Proof

end
